-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![512, 512]⟩ ⟨2, ![2048, 512]⟩ 0 4 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x512 : Shape := ⟨2, ![512, 512]⟩
abbrev S2048x512 : Shape := ⟨2, ![2048, 512]⟩
abbrev S6 : Shape := ⟨1, ![6]⟩
abbrev S_ : Shape := ⟨0, ![]⟩
abbrev S256x512 : Shape := ⟨2, ![256, 512]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .bf16⟩
  | .hbm, ⟨1, _⟩ => ⟨S2048x512, .bf16⟩
  | .local _ .vmem, ⟨0, _⟩ => ⟨S512x512, .bf16⟩
  | .local _ .vmem, ⟨1, _⟩ => ⟨S2048x512, .bf16⟩
  | _, _ => ⟨S512x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_7 : BitVec 32 := 1#32
  let v11 : BitVec 32 := Scalar.muli v7 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_9 : BitVec 32 := 1#32
  let v13 : BitVec 32 := Scalar.muli v4 c1_i32_9
  let v14 : BitVec 32 := Scalar.addi c0_i32_10 v13
  v14.toNat
def k0_off1 (d0 : Dev nD) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_59 : BitVec 32 := 512#32
  let v65 : BitVec 32 := Scalar.muli v2 c512_i32_59
  let v66 : BitVec 32 := Scalar.addi v65 c0_i32_60
  let v67 : Index := Scalar.indexCast v66
  let c0_61 : Index := 0#32
  ![v67.toNat, 0]
def k0_off2 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_13 : BitVec 32 := 512#32
  let v17 : BitVec 32 := Scalar.muli v2 c512_i32_13
  let v18 : BitVec 32 := Scalar.addi v17 c0_i32_14
  let c0_i32_66 : BitVec 32 := 0#32
  ![v18.toNat, 0]
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_64 : BitVec 32 := 1#32
  let v69 : BitVec 32 := Scalar.muli v4 c1_i32_64
  let v70 : BitVec 32 := Scalar.addi c0_i32_65 v69
  v70.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_74 : BitVec 32 := 1#32
  let v83 : BitVec 32 := Scalar.muli v7 c1_i32_74
  let v84 : BitVec 32 := Scalar.addi c0_i32_75 v83
  v84.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_80 : BitVec 32 := 1#32
  let v91 : BitVec 32 := Scalar.muli v4 c1_i32_80
  let v92 : BitVec 32 := Scalar.addi c0_i32_81 v91
  v92.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_85 : BitVec 32 := 1#32
  let v99 : BitVec 32 := Scalar.muli v7 c1_i32_85
  let v100 : BitVec 32 := Scalar.addi c0_i32_86 v99
  v100.toNat
def k0_off3 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c512_i32_36 : BitVec 32 := 512#32
  let v41 : BitVec 32 := Scalar.muli v7 c512_i32_36
  let v42 : BitVec 32 := Scalar.addi v41 c0_i32_37
  let c0_i32_93 : BitVec 32 := 0#32
  ![v42.toNat, 0]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_97 : BitVec 32 := 1#32
  let v113 : BitVec 32 := Scalar.muli v4 c1_i32_97
  let v114 : BitVec 32 := Scalar.addi c0_i32_98 v113
  v114.toNat
def k0_off4 (d0 : Dev nD) (c1_i32_0 : BitVec 32) (c256_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c512_i32_44 : BitVec 32 := 512#32
  let v49 : BitVec 32 := Scalar.muli v4 c512_i32_44
  let v50 : BitVec 32 := Scalar.addi v49 c256_i32_45
  let c0_i32_105 : BitVec 32 := 0#32
  ![v50.toNat, 0]
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_108 : BitVec 32 := 1#32
  let v127 : BitVec 32 := Scalar.muli v7 c1_i32_108
  let v128 : BitVec 32 := Scalar.addi c0_i32_109 v127
  v128.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Blocks.lean ====
/- The geometry of the all-gather: the four devices on their ring, the eight half blocks the result is
   made of, and the contents every half block ends with. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds, and this kernel's rounds with two duty names -/

/-- The protocols' state: the pipeline's and, beside it, the kernel's own. -/
abbrev Own : Type := UR sig nD τ × URounds (GSem nD τ sig) Bool

local notation "𝕄" => MT nD τ sig Unit (Elt F) ℕ Own ℕ

/-- Where the pipeline's state lies in the whole. -/
abbrev EPipe : Emb (UR sig nD τ) (MT nD τ sig Unit (Elt F) ℕ Own ℕ) := embL
/-- Where the kernel's state lies in the whole. -/
abbrev EKern : Emb (URounds (GSem nD τ sig) Bool) (MT nD τ sig Unit (Elt F) ℕ Own ℕ) := embR

/-! ## The ring -/

/-- The device `k` steps to the right of `c`. -/
def step (k : ℕ) (c : Dev nD) : Dev nD := ⟨(c.val + k) % 4, Nat.mod_lt _ (by decide)⟩

/-- The right neighbour. -/
abbrev rgt : Dev nD → Dev nD := step 1
/-- The left neighbour. -/
abbrev lft : Dev nD → Dev nD := step 3
/-- The device across the ring. -/
abbrev opp : Dev nD → Dev nD := step 2

/-- Right and then left comes back. -/
theorem lft_rgt (c : Dev nD) : lft (rgt c) = c := by revert c; decide
/-- Left and then right comes back. -/
theorem rgt_lft (c : Dev nD) : rgt (lft c) = c := by revert c; decide
/-- Twice left is across. -/
theorem lft_lft (c : Dev nD) : lft (lft c) = opp c := by revert c; decide
/-- Twice right is across. -/
theorem rgt_rgt (c : Dev nD) : rgt (rgt c) = opp c := by revert c; decide

/-- One step to the right, as a permutation of the devices. -/
def turn : Dev nD ≃ Dev nD := ⟨rgt, lft, lft_rgt, rgt_lft⟩

omit [FloatOps F] in
/-- A resource held for every device, told off from `c`'s point of view. -/
theorem bigSep_around (c : Dev nD) (P : Dev nD → sProp 𝕄) :
    bigSep Finset.univ P = iprop(P c ∗ P (lft c) ∗ P (rgt c) ∗ P (opp c)) :=
  bigSep_univ_eq_bigSepL [c, lft c, rgt c, opp c] (by revert c; decide) (by revert c; decide) P

/-! ## The half blocks of the result -/

/-- The staging buffer of a device's argument, whole. -/
abbrev xM : Memref sig .tc .vmem S512x512 .bf16 := Memref.whole cc0_stg0_0
/-- The staging buffer of the gathered array, whole. -/
abbrev oM : Memref sig .tc .vmem S2048x512 .bf16 := Memref.whole cc0_stg1_0

/-- A half block: whose rows, and which half of them. -/
abbrev Blk : Type := Dev nD × Fin 2

/-- Where half block `b` starts. -/
abbrev blkOff (b : Blk) : Fin 2 → ℕ := ![512 * b.1.val + 256 * b.2.val, 0]

/-- Every half block lies inside the gathered array. -/
theorem blkOff_inb (b : Blk) : ∀ a, blkOff b a + S256x512.size a ≤ S2048x512.size a := by
  have h1 := b.1.isLt
  have h2 := b.2.isLt
  refine Rect.inb₂ ?_ ?_
  · show 512 * b.1.val + 256 * b.2.val + 256 ≤ 2048
    have : b.1.val < 4 := h1
    omega
  · show 0 + 512 ≤ 512; omega

/-- A half block as a rectangle of the gathered array. -/
abbrev blkRect (b : Blk) : Rect S2048x512 := Rect.unit (s := S2048x512) (blkOff b) S256x512.size (blkOff_inb b)

/-- Half block `b` of the result's buffer. -/
abbrev blk (b : Blk) : Memref sig .tc .vmem S256x512 .bf16 := oM.slice (blkRect b) (fun _ => rfl)

/-- Two slices of the result's buffer with one offset are one slice. -/
theorem slice_eq_blk {off : Fin 2 → ℕ} {inb : ∀ a, off a + S256x512.size a ≤ S2048x512.size a} {h} (b : Blk) (e : off = blkOff b) :
    oM.slice (Rect.unit (s := S2048x512) off S256x512.size inb) h = blk b := by subst e; rfl

/-- A row of the result lies in half block `b` when it is one of its 256 rows. -/
theorem mem_blkRect {b : Blk} {i : S2048x512.Idx} :
    i ∈ (blkRect b).set ↔ 512 * b.1.val + 256 * b.2.val ≤ (i 0).val ∧ (i 0).val < 512 * b.1.val + 256 * b.2.val + 256 := by
  rw [Rect.mem_set_unit]
  constructor
  · intro h; exact h 0
  · intro h a
    fin_cases a
    · exact h
    · exact ⟨Nat.zero_le _, by have := (i 1).isLt; show (i 1).val < 0 + 512; rw [Nat.zero_add]; exact this⟩

/-- The elements of half block `b` in the result's buffer. -/
abbrev blkSet (b : Blk) : Finset (oM : Memref sig .tc .vmem S2048x512 .bf16).view.ty.Idx := (blk b).view.set

/-- Different half blocks have no element in common. -/
theorem blk_disjoint (b b' : Blk) (h : b ≠ b') : Disjoint (blkSet b) (blkSet b') := by
  show Disjoint (oM.view.slice (blkRect b)).set (oM.view.slice (blkRect b')).set
  rw [View.set_slice, View.set_slice, Finset.disjoint_map, Finset.disjoint_left]
  intro i hi hi'
  rw [mem_blkRect] at hi hi'
  have h1 := b.2.isLt
  have h2 := b'.2.isLt
  exact h (Prod.ext (Fin.ext (by omega)) (Fin.ext (by omega)))

/-- The half blocks are the whole result. -/
theorem blk_cover : Finset.univ.biUnion blkSet = Finset.univ := by
  have hs : ∀ b : Blk, blkSet b = (blkRect b).set.map oM.view.emb := fun b => View.set_slice _ _
  have hw : (oM.view.set : Finset _) = Finset.univ := View.set_whole _
  ext i
  simp only [Finset.mem_biUnion, Finset.mem_univ, true_and, iff_true]
  have hi : i ∈ oM.view.set := by rw [hw]; exact Finset.mem_univ _
  rw [View.set, Finset.mem_map] at hi
  obtain ⟨x, -, rfl⟩ := hi
  have hx : (x 0).val < 2048 := (x 0).isLt
  refine ⟨(⟨(x 0).val / 512, by show _ < 4; omega⟩, ⟨(x 0).val % 512 / 256, by omega⟩), ?_⟩
  rw [hs]
  refine Finset.mem_map_of_mem _ (mem_blkRect.mpr ?_)
  show 512 * ((x 0).val / 512) + 256 * ((x 0).val % 512 / 256) ≤ _ ∧ _ < 512 * ((x 0).val / 512) + 256 * ((x 0).val % 512 / 256) + 256
  omega

/-! ## Holding a half block -/

/-- Device `d` 's half block `b` of the result's buffer held at contents `f`, with share `q`. -/
def held (d : Dev nD) (q : PosShare TreeShare) (b : Blk) (f : Buf (Elt F) ((d : Thread nD τ).loc cc0_stg1_0)) : sProp 𝕄 :=
  (blk b).view.loc (d : Thread nD τ) ↦[(blk b).view.set]{q} f

omit [FloatOps F] in
/-- Holding a half block may be kept in an invariant. -/
instance held_storable (d : Dev nD) (q : PosShare TreeShare) (b : Blk) (f) : BI.Storable (upEmb : UEmb _ 𝕄) (held (F := F) d q b f) := by
  unfold held; infer_instance

omit [FloatOps F] in
/-- Contents that agree on the half block are as good as each other. -/
theorem held_congr {d : Dev nD} {q : PosShare TreeShare} {b : Blk} {f g : Buf (Elt F) ((d : Thread nD τ).loc cc0_stg1_0)}
    (h : ∀ j, (blk b).view.read (Elt F) f j = (blk b).view.read (Elt F) g j) : (held d q b f : sProp 𝕄) = held d q b g := by
  unfold held
  refine pointsTo_congr fun i hi => ?_
  rw [View.set, Finset.mem_map] at hi
  obtain ⟨j, -, rfl⟩ := hi
  have := h j
  simp only [View.read] at this
  exact (cast_inj _).mp this

omit [FloatOps F] in
/-- The result's buffer held whole is its half blocks held, device by device. -/
theorem whole_eq_halves (d : Dev nD) (f : Buf (Elt F) ((d : Thread nD τ).loc cc0_stg1_0)) :
    (((d : Thread nD τ).loc cc0_stg1_0) ↦{fullShare} f : sProp 𝕄)
      = bigSep Finset.univ fun o : Dev nD => iprop(held d fullShare (o, 0) f ∗ held d fullShare (o, 1) f) := by
  rw [Ring.pointsTo_blocks (ℓ := (d : Thread nD τ).loc cc0_stg1_0) blkSet blk_disjoint blk_cover f, bigSep_univ_prod]
  refine bigSep_congr fun o _ => ?_
  rw [bigSep_univ_eq_bigSepL [0, 1] (by decide) (by decide), bigSepL_cons_cons, bigSepL_singleton]
  rfl

omit [FloatOps F] in
/-- A half block held in full is the two halves of its share. -/
theorem held_split (d : Dev nD) (b : Blk) (f) :
    (held (F := F) d fullShare b f : sProp 𝕄) ⊣⊢ iprop(held d fullShare.left b f ∗ held d fullShare.right b f) := by
  unfold held; exact pointsTo_share (PosShare.mem_left_op_right fullShare)

/-! ## Contents -/

variable (m : (ℓ : Loc nD τ sig) → Buf (Elt F) ℓ)

/-- Device `c`'s argument, as its on-chip buffer holds it. -/
def xAt (c : Dev nD) : (cc0_stg0_0 : Ref sig .tc).ty.Contents (Elt F) :=
  (win0_0.blk (0 : Fin 1)).view.read (Elt F) (m ((c : Thread nD τ).loc main_arg0))

/-- The gathered array: row `r` is row `r % 512` of the argument of device `r / 512`. -/
def gathered : (cc0_stg1_0 : Ref sig .tc).ty.Contents (Elt F) := fun i : S2048x512.Idx =>
  xAt m ⟨(i 0).val / 512, by have : (i 0).val < 2048 := (i 0).isLt; show _ < 4; omega⟩
    (show S512x512.Idx from Shape.pair ⟨(i 0).val % 512, Nat.mod_lt _ (by decide)⟩ ⟨(i 1).val, (i 1).isLt⟩)

/-- Each half of a device's argument lies inside it. -/
theorem xRect_inb (h : Fin 2) : ∀ a, (![256 * h.val, 0] : Fin 2 → ℕ) a + S256x512.size a ≤ S512x512.size a := by
  have := h.isLt
  refine Rect.inb₂ ?_ ?_
  · show 256 * h.val + 256 ≤ 512; omega
  · show 0 + 512 ≤ 512; omega

/-- Half `h` of a device's own argument. -/
abbrev xRect (h : Fin 2) : Rect S512x512 := Rect.unit (s := S512x512) ![256 * h.val, 0] S256x512.size (xRect_inb h)

omit [FloatOps F] in
/-- Half block `(c, h)` of the gathered array is half `h` of device `c`'s argument. -/
theorem read_gathered (c : Dev nD) (h : Fin 2) (j : S256x512.Idx) :
    (blk (c, h)).view.read (Elt F) (gathered m) j = xM.view.readAt (Elt F) (xRect h).toLoadRect (xAt m c) j := by
  have hc : c.val < 4 := c.isLt
  have hh := h.isLt
  have hj : (j 0).val < 256 := (j 0).isLt
  show gathered m ((blkRect (c, h)).emb j) = xAt m c ((xRect h).emb j)
  have e0 : ((blkRect (c, h)).emb j 0).val = 512 * c.val + 256 * h.val + (j 0).val := by
    rw [Rect.emb_apply]; show 512 * c.val + 256 * h.val + 1 * (j 0).val = _; rw [Nat.one_mul]
  have e1 : ((blkRect (c, h)).emb j 1).val = (j 1).val := by
    rw [Rect.emb_apply]; show 0 + 1 * (j 1).val = _; omega
  have x0 : ((xRect h).emb j 0).val = 256 * h.val + (j 0).val := by
    rw [Rect.emb_apply]; show 256 * h.val + 1 * (j 0).val = _; rw [Nat.one_mul]
  have x1 : ((xRect h).emb j 1).val = (j 1).val := by
    rw [Rect.emb_apply]; show 0 + 1 * (j 1).val = _; omega
  unfold gathered
  have hd : (⟨((blkRect (c, h)).emb j 0).val / 512, by rw [e0]; show _ < 4; omega⟩ : Dev nD) = c := Fin.ext (by
    show ((blkRect (c, h)).emb j 0).val / 512 = c.val; rw [e0]; omega)
  rw [hd]
  refine congrArg (xAt m c) (funext fun a => Fin.ext ?_)
  fin_cases a
  · show ((blkRect (c, h)).emb j 0).val % 512 = ((xRect h).emb j 0).val
    rw [e0, x0]; omega
  · show ((blkRect (c, h)).emb j 1).val = ((xRect h).emb j 1).val
    rw [e1, x1]

omit [FloatOps F] in
/-- Writing half block `b` of `g` over any contents leaves half block `b` as `g` has it. -/
theorem held_write (d : Dev nD) (q : PosShare TreeShare) (b : Blk) (f g : (cc0_stg1_0 : Ref sig .tc).ty.Contents (Elt F)) :
    (held d q b ((blk b).view.write (Elt F) f ((blk b).view.read (Elt F) g) Finset.univ) : sProp 𝕄) = held d q b g :=
  held_congr fun j => congrFun (View.read_write_univ _ _) j

omit [FloatOps F] in
/-- Writing half `h` of device `c`'s argument over half block `(c, h)` leaves it as the gathered array has it. -/
theorem held_store (d c : Dev nD) (q : PosShare TreeShare) (h : Fin 2) (f : (cc0_stg1_0 : Ref sig .tc).ty.Contents (Elt F)) :
    (held d q (c, h) ((blk (c, h)).view.write (Elt F) f (xM.view.readAt (Elt F) (xRect h).toLoadRect (xAt m c)) Finset.univ) : sProp 𝕄)
      = held d q (c, h) (gathered m) :=
  held_congr fun j => (congrFun (View.read_write_univ _ _) j).trans (read_gathered m c h j).symm

end Cert.Gather

end
-- ==== Proof.Schedule.lean ====
/- The protocol of the all-gather: the six transfers of a device, the semaphore cells they count on, what
   each unit on a cell hands to the cell's owner, and what each device still owes at each point. -/
module

public import proofs.«01_k».proof.Proof.Blocks

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Own ℕ

/-! ## The transfers -/

/-- The device transfer `k` of device `c` goes to: transfers 0, 1, 4 go right, 2, 3, 5 go left. -/
def tgt : Fin 6 → Dev nD → Dev nD := ![rgt, rgt, lft, lft, rgt, lft]
/-- The device whose transfer `k` reaches device `c`. -/
def src : Fin 6 → Dev nD → Dev nD := ![lft, lft, rgt, rgt, lft, rgt]

/-- Sending along `k` undoes looking up who sends along `k`. -/
theorem tgt_src (k : Fin 6) (c : Dev nD) : tgt k (src k c) = c := by revert k c; decide
/-- And the other way round. -/
theorem src_tgt (k : Fin 6) (c : Dev nD) : src k (tgt k c) = c := by revert k c; decide

/-- The devices, moved along transfer `k`. -/
def along (k : Fin 6) : Dev nD ≃ Dev nD := ⟨tgt k, src k, src_tgt k, tgt_src k⟩

/-- The half block transfer `k` of device `c` carries: its own halves to both neighbours, then the first half of
    the left neighbour's block on to the right and the second half of the right neighbour's on to the left. -/
def carried : Fin 6 → Dev nD → Blk :=
  ![fun c => (c, 0), fun c => (c, 1), fun c => (c, 1), fun c => (c, 0), fun c => (lft c, 0), fun c => (rgt c, 1)]
/-- The half block that lands on device `c` by transfer `k`. -/
def landing : Fin 6 → Dev nD → Blk :=
  ![fun c => (lft c, 0), fun c => (lft c, 1), fun c => (rgt c, 1), fun c => (rgt c, 0), fun c => (opp c, 0), fun c => (opp c, 1)]

/-- What lands at the target is what the sender carried. -/
theorem landing_tgt (k : Fin 6) (c : Dev nD) : landing k (tgt k c) = carried k c := by revert k c; decide

/-- The share of its half block that a transfer reads with: a device's own halves go out twice at once. -/
def part : Fin 6 → PosShare TreeShare :=
  ![fullShare.left, fullShare.left, fullShare.right, fullShare.right, fullShare, fullShare]

/-! ## The cells -/

/-- The barrier semaphore, shared by the kernels of one collective id. -/
abbrev barS : Sem sig := (SemArray.scalar (sig.barrier 0 rfl) : Sems sig S_).sem

/-- The DMA semaphore of transfer `k`: the receiver's if `x.1`, the sender's otherwise. -/
def xferS (x : Bool × Fin 6) : DmaSem sig :=
  ⟨(if x.1 then 8 else 2) + x.2.val, by have := x.2.isLt; show _ < 14; split <;> omega⟩

/-- The twelve transfer semaphores are distinct. -/
theorem xferS_injective : Function.Injective xferS := by decide

/-- The kernel's semaphores on one device: the barrier, then those of the transfers. -/
abbrev Slot : Type := Unit ⊕ (Bool × Fin 6)

/-- A transfer semaphore as a place among all semaphores. -/
abbrev ownSem (x : Bool × Fin 6) : SemLoc sig := .dma (xferS x)
/-- The semaphore of a slot. -/
abbrev slotSem : Slot → SemLoc sig := Sum.elim (fun _ => .reg barS) ownSem

/-- Different slots have different semaphores. -/
theorem slotSem_injective : Function.Injective slotSem := by decide

/-- Device `c`'s barrier. -/
abbrev barCell (c : Dev nD) : GSem nD τ sig := ((c : Thread nD τ), .reg barS)
/-- One of device `c`'s transfer semaphores. -/
abbrev xferCell (c : Dev nD) (x : Bool × Fin 6) : GSem nD τ sig := ((c : Thread nD τ), .dma (xferS x))
/-- The one that counts what transfer `k` of device `c` has sent. -/
abbrev sendCell (c : Dev nD) (k : Fin 6) : GSem nD τ sig := xferCell c (false, k)
/-- The one that counts what transfer `k` has brought device `c`. -/
abbrev recvCell (c : Dev nD) (k : Fin 6) : GSem nD τ sig := xferCell c (true, k)

/-- The cell of a device's semaphore. -/
abbrev slotCell (cs : Dev nD × Slot) : GSem nD τ sig := ((cs.1 : Thread nD τ), slotSem cs.2)

/-- Different devices and slots have different cells. -/
theorem slotCell_injective : Function.Injective slotCell := by
  rintro ⟨c, s⟩ ⟨c', s'⟩ h
  have h1 : c = c' := congrArg (fun g : GSem nD τ sig => g.1.1) h
  exact Prod.ext h1 (slotSem_injective (congrArg Prod.snd h))

/-- The credit of one transfer. -/
abbrev N : ℕ := (blk (0, 0)).view.dmaCredit

/-- A transfer pays something. -/
theorem N_pos : 0 < N := View.dmaCredit_pos _ (by decide)

/-! ## What the units hand over -/

variable (m : (ℓ : Loc nD τ sig) → Buf (Elt F) ℓ)

/-- Leave to write by transfer `k` of device `c`: the half block it lands on, with any contents. -/
def grant (c : Dev nD) (k : Fin 6) : sProp 𝕄 := iprop(∃ f, held (tgt k c) fullShare (carried k c) f)

/-- What device `c` learns at its barrier: the right neighbour's signal (duty `false`) brings leave for the
    transfers to the right, the left neighbour's (duty `true`) for those to the left. -/
def barPay (c : Dev nD) (d : Bool) : sProp 𝕄 :=
  if d then iprop(grant c 2 ∗ grant c 3 ∗ grant c 5) else iprop(grant c 0 ∗ grant c 1 ∗ grant c 4)

omit [FloatOps F] in
/-- What the right neighbour's signal brings, written out. -/
theorem barPay_false (c : Dev nD) : (barPay (F := F) c false) = iprop(grant c 0 ∗ grant c 1 ∗ grant c 4) := rfl
omit [FloatOps F] in
/-- What the left neighbour's signal brings, written out. -/
theorem barPay_true (c : Dev nD) : (barPay (F := F) c true) = iprop(grant c 2 ∗ grant c 3 ∗ grant c 5) := rfl

/-- A receive cell hands over the half block that landed; a send cell gives back the half block that was read. -/
def xferPay (c : Dev nD) (x : Bool × Fin 6) : sProp 𝕄 :=
  if x.1 then held c fullShare (landing x.2 c) (gathered m) else held c (part x.2) (carried x.2 c) (gathered m)

omit [FloatOps F] in
/-- What a receive cell hands over, written out. -/
theorem xferPay_landed (c : Dev nD) (k : Fin 6) : xferPay m c (true, k) = held c fullShare (landing k c) (gathered m) := rfl
omit [FloatOps F] in
/-- What a send cell gives back, written out. -/
theorem xferPay_sent (c : Dev nD) (k : Fin 6) : xferPay m c (false, k) = held c (part k) (carried k c) (gathered m) := rfl

omit [FloatOps F] in
/-- A barrier's payload may be kept in an invariant. -/
instance barPay_storable (c : Dev nD) (d : Bool) : BI.Storable (upEmb : UEmb _ 𝕄) (barPay (F := F) c d) := by
  unfold barPay grant; split <;> infer_instance
omit [FloatOps F] in
/-- So may a transfer's. -/
instance xferPay_storable (c : Dev nD) (x : Bool × Fin 6) : BI.Storable (upEmb : UEmb _ 𝕄) (xferPay m c x) := by
  unfold xferPay; split <;> infer_instance

/-- Which transfer a DMA semaphore counts for, and on which side; the two staging semaphores count for none. -/
def xferOf (s : DmaSem sig) : Option (Bool × Fin 6) :=
  if h : 8 ≤ s.val then some (true, ⟨s.val - 8, by have : s.val < 14 := s.isLt; omega⟩)
  else if h' : 2 ≤ s.val then some (false, ⟨s.val - 2, by omega⟩) else none

/-- Each transfer semaphore counts for its own transfer. -/
theorem xferOf_xferS (x : Bool × Fin 6) : xferOf (xferS x) = some x := by revert x; decide

/-- One round on each cell: two units on a barrier, one transfer's credit on a transfer's cell. -/
def sched : Rounds.Schedule (GSem nD τ sig) Bool 𝕄 where
  duties g r := if r = 0 then (match g.2 with | .reg _ => Finset.univ | .dma s => if (xferOf s).isSome then {false} else ∅) else ∅
  amount g _ _ := match g.2 with | .reg _ => 1 | .dma _ => N
  payload g _ d := match g.2 with
    | .reg _ => barPay g.1.1 d
    | .dma s => (xferOf s).elim iprop(emp) (xferPay m g.1.1)
  amount_pos g _ _ _ := by
    show 0 < (match g.2 with | .reg _ => 1 | .dma _ => N : ℕ)
    split
    · exact Nat.one_pos
    · exact N_pos
  unitless _ := False

omit [FloatOps F] in
/-- So every payload of the schedule may be kept in an invariant. -/
instance sched_payload_storable (g : GSem nD τ sig) (r : ℕ) (d : Bool) :
    BI.Storable (upEmb : UEmb _ 𝕄) ((sched m).payload g r d) := by
  obtain ⟨t, s | s⟩ := g
  · show BI.Storable upEmb (barPay t.1 d); infer_instance
  · show BI.Storable upEmb ((xferOf s).elim iprop(emp) (xferPay m t.1))
    cases xferOf s
    · show BI.Storable upEmb (iprop(emp) : sProp 𝕄); infer_instance
    · show BI.Storable upEmb (xferPay m t.1 _); infer_instance

omit [FloatOps F] in
/-- A barrier has two duties in its round. -/
theorem duties_bar (c : Dev nD) : (sched m).duties (barCell c) 0 = Finset.univ := by
  dsimp only [sched]; exact if_pos rfl
omit [FloatOps F] in
/-- A transfer's cell has one. -/
theorem duties_xfer (c : Dev nD) (x : Bool × Fin 6) : (sched m).duties (xferCell c x) 0 = {false} := by
  show (if (xferOf (xferS x)).isSome then {false} else ∅ : Finset Bool) = {false}
  rw [xferOf_xferS]; rfl
omit [FloatOps F] in
/-- There are no duties after the first round. -/
theorem duties_later (g : GSem nD τ sig) (r : ℕ) (h : 1 ≤ r) : (sched m).duties g r = ∅ := if_neg (by omega)

omit [FloatOps F] in
/-- A barrier expects two units. -/
theorem expect_bar (c : Dev nD) : (sched m).expect (barCell c) 0 = 2 := by
  unfold Schedule.expect Schedule.amountOf; rw [duties_bar]; rfl
omit [FloatOps F] in
/-- A transfer's cell expects one transfer's credit. -/
theorem expect_xfer (c : Dev nD) (x : Bool × Fin 6) : (sched m).expect (xferCell c x) 0 = N := by
  unfold Schedule.expect Schedule.amountOf; rw [duties_xfer, Finset.sum_singleton]; rfl

omit [FloatOps F] in
/-- What the schedule hands over at a barrier. -/
theorem payload_bar (c : Dev nD) (d : Bool) : (sched m).payload (barCell c) 0 d = barPay c d := rfl
omit [FloatOps F] in
/-- What the schedule hands over at a transfer's cell. -/
theorem payload_xfer (c : Dev nD) (x : Bool × Fin 6) (d : Bool) : (sched m).payload (xferCell c x) 0 d = xferPay m c x := by
  show (xferOf (xferS x)).elim iprop(emp) (xferPay m c) = _
  rw [xferOf_xferS]; rfl

omit [FloatOps F] in
/-- All a barrier hands over: leave for the six transfers. -/
theorem all_bar (c : Dev nD) : bigSep ((sched m).duties (barCell c) 0 \ ∅) (fun d => (sched m).payload (barCell c) 0 d)
    = iprop(barPay c false ∗ barPay c true) := by
  rw [Finset.sdiff_empty, duties_bar, bigSep_univ_eq_bigSepL [false, true] (by decide) (by decide), bigSepL_cons_cons, bigSepL_singleton]
  rfl
omit [FloatOps F] in
/-- All a transfer's cell hands over: its one payload. -/
theorem all_xfer (c : Dev nD) (x : Bool × Fin 6) :
    bigSep ((sched m).duties (xferCell c x) 0 \ ∅) (fun d => (sched m).payload (xferCell c x) 0 d) = xferPay m c x := by
  rw [Finset.sdiff_empty, duties_xfer, bigSep_singleton, payload_xfer]

/-! ## What a device owes -/

/-- The credit still owed to the receivers of the transfers `ks`. -/
def owing (c : Dev nD) : List (Fin 6) → CellTallies nD τ sig Unit
  | [] => 0
  | k :: ks => owing c ks + tallyAt (recvCell (tgt k c) k) () N

/-- The order in which a device starts its transfers. -/
abbrev order : List (Fin 6) := [0, 2, 1, 3, 4, 5]

/-- What a device owes at launch: the six transfers and a unit to each neighbour's barrier. -/
def owing₀ (c : Dev nD) : CellTallies nD τ sig Unit :=
  owing c order + tallyAt (barCell (rgt c)) () 1 + tallyAt (barCell (lft c)) () 1

/-- The core's debt for the transfers `ks`, whatever it has waited for. -/
def debt (c : Dev nD) (ks : List (Fin 6)) : sProp 𝕄 := iprop(∃ W, owes (c : Thread nD τ) (owing c ks) W)

/-- The rank of a semaphore: a wait may rest only on semaphores of higher rank. Forwarded halves rank above direct ones. -/
def rank : SemLoc sig → ℕ
  | .reg _ => 1
  | .dma s => if s.val < 8 then 0 else if s.val < 12 then 2 else 3

/-- A cell's level is its semaphore's rank. -/
abbrev lv (g : GSem nD τ sig) (_ : Unit) : ℕ := rank g.2
/-- Only the tensor cores' cells are counted. -/
def L (g : GSem nD τ sig) : Finset Unit := if g.1.2 = .tc then {()} else ∅

/-- Off the tensor cores nothing is counted. -/
theorem L_of_ne (g : GSem nD τ sig) (h : g.1.2 ≠ .tc) : L g = ∅ := if_neg h
/-- On the tensor cores every cell is counted. -/
theorem mem_L (c : Dev nD) (sm : SemLoc sig) (u : Unit) : u ∈ L ((c : Thread nD τ), sm) := by
  rw [show L ((c : Thread nD τ), sm) = {()} from if_pos rfl]; exact Finset.mem_singleton_self _

/-- A tally at one cell is positive at no other. -/
theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- What is owed for the transfers `ks` is owed to their receive cells. -/
theorem owing_pos {c : Dev nD} {ks : List (Fin 6)} {g : GSem nD τ sig} {u : Unit} (h : 0 < owing c ks g u) :
    ∃ k ∈ ks, g = recvCell (tgt k c) k := by
  induction ks with
  | nil => exact absurd h (Nat.lt_irrefl 0)
  | cons k ks ih =>
    have h' : 0 < owing c ks g u + (tallyAt (recvCell (tgt k c) k) () N : CellTallies nD τ sig Unit) g u := h
    rcases Nat.eq_zero_or_pos (owing c ks g u) with h0 | hp
    · rw [h0, Nat.zero_add] at h'
      exact ⟨k, List.mem_cons_self, tallyAt_pos h'⟩
    · obtain ⟨j, hj, e⟩ := ih hp
      exact ⟨j, List.mem_cons_of_mem _ hj, e⟩

/-- The barrier ranks below every receive semaphore. -/
theorem rank_bar_recv : ∀ k : Fin 6, rank (.reg barS) < rank (ownSem (true, k)) := by decide
/-- Every receive semaphore ranks above the lowest rank. -/
theorem rank_recv : ∀ k : Fin 6, 0 < rank (ownSem (true, k)) := by decide

/-- What is owed at launch is owed to a receive cell or a barrier. -/
theorem owing₀_pos {c : Dev nD} {g : GSem nD τ sig} {u : Unit} (h : 0 < owing₀ c g u) :
    ∃ (d : Dev nD) (sm : SemLoc sig), g = ((d : Thread nD τ), sm) ∧ 0 < rank sm := by
  have h' : 0 < owing c order g u + (tallyAt (barCell (rgt c)) () 1 : CellTallies nD τ sig Unit) g u
      + (tallyAt (barCell (lft c)) () 1 : CellTallies nD τ sig Unit) g u := h
  rcases Nat.eq_zero_or_pos ((tallyAt (barCell (lft c)) () 1 : CellTallies nD τ sig Unit) g u) with h1 | h1
  · rcases Nat.eq_zero_or_pos ((tallyAt (barCell (rgt c)) () 1 : CellTallies nD τ sig Unit) g u) with h2 | h2
    · rw [h1, h2] at h'
      obtain ⟨k, -, e⟩ := owing_pos (show 0 < owing c order g u from h')
      exact ⟨tgt k c, .dma (xferS (true, k)), e, rank_recv k⟩
    · exact ⟨rgt c, .reg barS, tallyAt_pos h2, by decide⟩
  · exact ⟨lft c, .reg barS, tallyAt_pos h1, by decide⟩

omit [FloatOps F] in
/-- A core may wait on a semaphore ranked below the receive semaphores of the transfers it has yet to start. -/
theorem mayWait_owing (c : Dev nD) (sm : SemLoc sig) (ks : List (Fin 6)) (h : ∀ k ∈ ks, rank sm < rank (ownSem (true, k))) :
    (levAts L lv : sProp 𝕄) ⊢ MayWait (c : Thread nD τ) sm () (owing c ks) :=
  MayOwe.of_cut (L := L) (lev := lv) (rank sm) (fun p hp => mem_L c p.1 p.2)
    (fun g u hg => by obtain ⟨k, -, rfl⟩ := owing_pos hg; exact mem_L _ _ _)
    (fun p hp => by rw [Finset.mem_singleton.mp hp])
    (fun g u hg => by obtain ⟨k, hk, rfl⟩ := owing_pos hg; exact h k hk)

omit [FloatOps F] in
/-- A core may wait on a semaphore of rank zero whatever it owes. -/
theorem mayWait_low (c : Dev nD) (sm : SemLoc sig) (h : rank sm = 0) (O : CellTallies nD τ sig Unit) (hO : O = owing₀ c ∨ O = 0) :
    (levAts L lv : sProp 𝕄) ⊢ MayWait (c : Thread nD τ) sm () O := by
  rcases hO with rfl | rfl
  · exact MayOwe.of_cut (L := L) (lev := lv) 0 (fun p hp => mem_L c p.1 p.2)
      (fun g u hg => by obtain ⟨d, s, rfl, -⟩ := owing₀_pos hg; exact mem_L d s u)
      (fun p hp => by rw [Finset.mem_singleton.mp hp]; exact le_of_eq h)
      (fun g u hg => by obtain ⟨d, s, rfl, hs⟩ := owing₀_pos hg; exact hs)
  · rw [MayWait_zero]; iintro -; iempintro

end Cert.Gather

end
-- ==== Proof.Steps.lean ====
/- The four kinds of step a device takes: a signal to a neighbour's barrier, the wait at its own barrier,
   the start of a transfer, and the wait for a transfer's end. Each is stated once, for any transfer. -/
module

public import proofs.«01_k».proof.Proof.Schedule

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Own ℕ

/-- No loop of the kernel needs a measure. -/
abbrev vars : Variants := Variants.none

variable (m : (ℓ : Loc nD τ sig) → Buf (Elt F) ℓ) (κ : Dev nD × Slot → ℕ)

/-- What every device knows of every cell: its invariant, under the name `κ` gives it, and that its round has begun;
    and the ranks of the semaphores. -/
def known : sProp 𝕄 :=
  iprop((bigSep Finset.univ fun cs : Dev nD × Slot => cellInv EKern (sched m) (κ cs) (slotCell cs))
    ∗ (bigSep Finset.univ fun cs : Dev nD × Slot => reached EKern (slotCell cs) 0) ∗ levAts L lv)

/-- What is known stays known. -/
instance known_persistent : BI.Persistent (known m κ) := by unfold known; infer_instance

omit [FloatOps F] in
/-- Every cell's invariant is known. -/
theorem known_inv (c : Dev nD) (s : Slot) : known m κ ⊢ cellInv EKern (sched m) (κ (c, s)) (slotCell (c, s)) := by
  have h : (bigSep Finset.univ fun cs : Dev nD × Slot => (cellInv EKern (sched m) (κ cs) (slotCell cs) : sProp 𝕄))
      ⊢ cellInv EKern (sched m) (κ (c, s)) (slotCell (c, s)) := bigSep_elim (Finset.mem_univ (c, s))
  unfold known
  iintro ⟨H, -⟩
  iapply h; iexact H

omit [FloatOps F] in
/-- Every cell is known to have reached its round. -/
theorem known_reached (c : Dev nD) (s : Slot) : known m κ ⊢ reached EKern (slotCell (c, s)) 0 := by
  have h : (bigSep Finset.univ fun cs : Dev nD × Slot => (reached EKern (slotCell cs) 0 : sProp 𝕄))
      ⊢ reached EKern (slotCell (c, s)) 0 := bigSep_elim (Finset.mem_univ (c, s))
  unfold known
  iintro ⟨-, H, -⟩
  iapply h; iexact H

omit [FloatOps F] in
/-- The ranks are known. -/
theorem known_ranks : known m κ ⊢ levAts L lv := by
  unfold known
  iintro ⟨-, -, H⟩
  iexact H

/-- A signal of device `c` to neighbour `d`'s barrier, as that barrier's duty `b`, handing over what the duty brings. -/
theorem wp_hail {α : Type} {Q : α → sProp 𝕄} {k : PUnit → Prog (TpuEff nD τ sig (Elt F) Λ₀ .tc) α}
    (c d : Dev nD) (b : Bool) {n : Dev nD} (hn : n = d) {u : ℤ} (hu : u = ((1 : ℕ) : ℤ)) (O : CellTallies nD τ sig Unit) {W : Waits sig Unit} :
    iprop(known m κ ∗ owes (c : Thread nD τ) (O + tallyAt (barCell d) () 1) W ∗ dutyTok EKern (barCell d) 0 b ∗ barPay d b)
      ⊢ iprop((owes (c : Thread nD τ) O W -∗ wp frame (wpE (defs₀ (F := F)) vars (c : Thread nD τ) none) Set.univ (k ⟨⟩) Q)
          -∗ wp frame (wpE (defs₀ (F := F)) vars (c : Thread nD τ) none) Set.univ
              (.op (.semSignal (Dev.tc n : Thread nD τ) barS u) k) Q) := by
  subst hn hu
  iintro ⟨#HK, HO, Ht, Hp⟩
  iapply (Rounds.wp_signal vars EKern (sched m) (c : Thread nD τ) none (dst := (n : Thread nD τ)) (κ := κ (n, .inl ()))
      (d := b) (by rw [duties_bar]; exact Finset.mem_univ _) rfl () O rfl)
  isplitr; · iapply (known_inv m κ n (.inl ())); iexact HK
  isplitl [HO]; · iexact HO
  isplitl [Ht]; · iexact Ht
  isplitl [Hp]; · rw [payload_bar]; iexact Hp
  iapply (known_reached m κ n (.inl ())); iexact HK

/-- The wait for both neighbours at the device's own barrier: it comes back with leave for all six transfers, and the
    barrier's cell is done with. -/
theorem wp_meet {α : Type} {Q : α → sProp 𝕄} {k : PUnit → Prog (TpuEff nD τ sig (Elt F) Λ₀ .tc) α}
    (c : Dev nD) {u : ℤ} (hu : u = ((2 : ℕ) : ℤ)) (ks : List (Fin 6)) {W : Waits sig Unit} :
    iprop(known m κ ∗ owes (c : Thread nD τ) (owing c ks) W ∗ cred (tallyAt (barCell c) () 2) ∗ atPos EKern (barCell c) 0 ∅ 0)
      ⊢ iprop(((debt c ks ∗ semVal (barCell c) 0 ∗ barPay c false ∗ barPay c true)
            -∗ wp frame (wpE (defs₀ (F := F)) vars (c : Thread nD τ) none) Set.univ (k ⟨⟩) Q)
          -∗ wp frame (wpE (defs₀ (F := F)) vars (c : Thread nD τ) none) Set.univ (.op (.semWait barS u) k) Q) := by
  subst hu
  iintro ⟨#HK, HO, Hc, Hat⟩ Hk
  iapply (Rounds.wp_wait_rest_token vars EKern (sched m) (c : Thread nD τ) none (κ := κ (c, .inl ()))
      (wpE_semWait_eq vars (c : Thread nD τ) none Set.univ) (Set.mem_univ _) () (O := owing c ks) (W := W) (R := 0) (m := 0) (T := ∅)
      (by rw [expect_bar])) $$ [HO Hc Hat]
  · isplitr; · iapply (known_inv m κ c (.inl ())); iexact HK
    isplitl [Hc]; · iexact Hc
    isplitl [HO]; · iexact HO
    isplitr
    · iapply (mayWait_owing c (.reg barS) ks fun k _ => rank_bar_recv k); iapply (known_ranks m κ); iexact HK
    iexact Hat
  iintro ⟨HO, Hat, -, Hp⟩
  imod (Rounds.cell_close EKern (sched m) (Set.mem_univ (κ (c, .inl ()))) (fun h => h) (R := 0 + 1) (duties_later m (barCell c))) $$ [Hat] with Hz
  · isplitr; · iapply (known_inv m κ c (.inl ())); iexact HK
    iexact Hat
  ihave Hp' := (Entails.of_eq (all_bar m c)) $$ Hp
  iapply Hk
  isplitl [HO]; · unfold debt; iexists _; iexact HO
  isplitl [Hz]; · iexact Hz
  iexact Hp'

/-- The start of transfer `j` of device `c`: it gives up the half block it reads, as much of it as the transfer needs,
    the leave to write and the debt, and is owed the read half block back. -/
theorem wp_put {α : Type} {Q : α → sProp 𝕄} {k : PUnit → Prog (TpuEff nD τ sig (Elt F) Λ₀ .tc) α}
    (c : Dev nD) (j : Fin 6) (js : List (Fin 6)) {n : Dev nD} (hn : n = tgt j c)
    {v : Memref sig .tc .vmem S256x512 .bf16} (hv : v = blk (carried j c)) {sS sR : DmaSem sig} (hS : sS = xferS (false, j)) (hR : sR = xferS (true, j))
    {hsc : (v : Memref sig (Dev.tc n : Thread nD τ).2.kind .vmem S256x512 .bf16).view.ref.isScScratch = false}
    {hsrc : v.view.WordExact} {hdst : v.view.WordExact}
    {hsem : DmaTarget.Typed .vmem (.dma sR) (.remote (Dev.tc n : Thread nD τ) (v : Memref sig (Dev.tc n : Thread nD τ).2.kind .vmem S256x512 .bf16) (.dma sS) hsc)} :
    iprop(known m κ ∗ held c (part j) (carried j c) (gathered m) ∗ grant c j ∗ debt c (j :: js)
        ∗ dutyTok EKern (sendCell c j) 0 false ∗ dutyTok EKern (recvCell (tgt j c) j) 0 false)
      ⊢ iprop(((cred (tallyAt (sendCell c j) () N) ∗ debt c js) -∗ wp frame (wpE (defs₀ (F := F)) vars (c : Thread nD τ) none) Set.univ (k ⟨⟩) Q)
          -∗ wp frame (wpE (defs₀ (F := F)) vars (c : Thread nD τ) none) Set.univ
              (.op (.enqueueDma v (.remote (Dev.tc n : Thread nD τ) v (.dma sS) hsc) (.dma sR) hsrc hdst hsem) k) Q) := by
  subst hn hv hS hR
  unfold grant debt
  iintro ⟨#HK, Hh, ⟨%f, Hg⟩, ⟨%W, HO⟩, HtS, HtR⟩ Hk
  iapply (Rounds.wp_send_pointsTo vars EKern (sched m) (c : Thread nD τ) none (κ₁ := κ (c, .inr (false, j))) (κ₂ := κ (tgt j c, .inr (true, j)))
      (r₁ := 0) (r₂ := 0) (d₁ := false) (d₂ := false) (q := part j) (fs := gathered m) (fd := f)
      (by rw [duties_xfer]; exact Finset.mem_singleton_self _) (by rw [duties_xfer]; exact Finset.mem_singleton_self _)
      () () N rfl rfl rfl (owing c js) rfl (W := W)
      (by rw [payload_xfer]; exact BI.Entails.refl _)
      (by
        rw [payload_xfer]
        show held (tgt j c) fullShare (carried j c) ((blk (carried j c)).view.write (Elt F) f ((blk (carried j c)).view.read (Elt F) (gathered m)) Finset.univ)
          ⊢ held (tgt j c) fullShare (landing j (tgt j c)) (gathered m)
        rw [held_write, landing_tgt])) $$ [Hh Hg HO HtS HtR]
  · isplitr; · iapply (known_inv m κ c (.inr (false, j))); iexact HK
    isplitr; · iapply (known_inv m κ (tgt j c) (.inr (true, j))); iexact HK
    isplitl [Hh]; · unfold held; iexact Hh
    isplitl [Hg]; · unfold held; iexact Hg
    isplitl [HO]; · iexact HO
    isplitl [HtS]; · iexact HtS
    isplitr; · iapply (known_reached m κ c (.inr (false, j))); iexact HK
    isplitl [HtR]; · iexact HtR
    iapply (known_reached m κ (tgt j c) (.inr (true, j))); iexact HK
  iintro ⟨Hc, HO⟩
  iapply Hk
  isplitl [Hc]; · iexact Hc
  iexists W; iexact HO

/-- The wait for the end of a transfer, on the sender's side or the receiver's: the half block comes back and the cell
    is done with. -/
theorem wp_take {α : Type} {Q : α → sProp 𝕄} {k : PUnit → Prog (TpuEff nD τ sig (Elt F) Λ₀ .tc) α}
    (c : Dev nD) (x : Bool × Fin 6) (js : List (Fin 6)) (hj : ∀ j ∈ js, rank (ownSem x) < rank (ownSem (true, j)))
    {s : DmaSem sig} (hs : s = xferS x) {v w : Memref sig .tc .vmem S256x512 .bf16}
    {hsrc : v.view.WordExact} {hdst : w.view.WordExact} :
    iprop(known m κ ∗ debt c js ∗ cred (tallyAt (xferCell c x) () N) ∗ atPos EKern (xferCell c x) 0 ∅ 0)
      ⊢ iprop(((debt c js ∗ semVal (xferCell c x) 0 ∗ xferPay m c x)
            -∗ wp frame (wpE (defs₀ (F := F)) vars (c : Thread nD τ) none) Set.univ (k ⟨⟩) Q)
          -∗ wp frame (wpE (defs₀ (F := F)) vars (c : Thread nD τ) none) Set.univ (.op (.waitDma2 s v w hsrc hdst) k) Q) := by
  subst hs
  have hN : w.view.dmaCredit = N := rfl
  unfold debt
  iintro ⟨#HK, ⟨%W, HO⟩, Hc, Hat⟩ Hk
  iapply (Rounds.wp_wait_rest_token vars EKern (sched m) (c : Thread nD τ) none (κ := κ (c, .inr x))
      (wpE_waitDma2_eq vars (c : Thread nD τ) none Set.univ) (Set.mem_univ _) () (O := owing c js) (W := W) (R := 0) (m := 0) (T := ∅)
      (by rw [Nat.zero_add, expect_xfer, hN])) $$ [HO Hc Hat]
  · isplitr; · iapply (known_inv m κ c (.inr x)); iexact HK
    isplitl [Hc]; · rw [hN]; iexact Hc
    isplitl [HO]; · iexact HO
    isplitr
    · iapply (mayWait_owing c (ownSem x) js hj); iapply (known_ranks m κ); iexact HK
    iexact Hat
  iintro ⟨HO, Hat, -, Hp⟩
  imod (Rounds.cell_close EKern (sched m) (Set.mem_univ (κ (c, .inr x))) (fun h => h) (R := 0 + 1) (duties_later m (xferCell c x))) $$ [Hat] with Hz
  · isplitr; · iapply (known_inv m κ c (.inr x)); iexact HK
    iexact Hat
  ihave Hp' := (Entails.of_eq (all_xfer m c x)) $$ Hp
  iapply Hk
  isplitl [HO]; · iexists _; iexact HO
  isplitl [Hz]; · iexact Hz
  iexact Hp'

end Cert.Gather

end
-- ==== Proof.Body.lean ====
/- One device's run of the kernel, step by step: the handshake with both neighbours, its own half blocks written
   and sent out, the arriving half blocks forwarded, and the result whole at the end. -/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Own ℕ

variable (m : (ℓ : Loc nD τ sig) → Buf (Elt F) ℓ)

/-! ## What a device starts from and ends with -/

omit [FloatOps F] in
/-- A resource per transfer, told off. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- A resource per semaphore: the barrier's, the senders', the receivers'. -/
theorem bigSep_slots (Φ : Slot → sProp 𝕄) : bigSep Finset.univ Φ = iprop(Φ (.inl ())
    ∗ (bigSep Finset.univ fun k : Fin 6 => Φ (.inr (false, k))) ∗ bigSep Finset.univ fun k : Fin 6 => Φ (.inr (true, k))) := by
  rw [bigSep_univ_sum, bigSep_univ_prod, bigSep_univ_eq_bigSepL [()] (by decide) (by decide), bigSepL_singleton,
    bigSep_univ_eq_bigSepL [false, true] (by decide) (by decide), bigSepL_cons_cons, bigSepL_singleton]
  rfl

/-- The tokens of the duties device `c` pays: a unit at each neighbour's barrier, and both ends of its six transfers. -/
def tokens (c : Dev nD) : sProp 𝕄 :=
  iprop(dutyTok EKern (barCell (lft c)) 0 false ∗ dutyTok EKern (barCell (rgt c)) 0 true
    ∗ (bigSep Finset.univ fun k => dutyTok EKern (sendCell c k) 0 false)
    ∗ bigSep Finset.univ fun k => dutyTok EKern (recvCell (tgt k c) k) 0 false)

/-- Device `c`'s places at its own cells. -/
def places (c : Dev nD) : sProp 𝕄 :=
  bigSep Finset.univ fun s : Slot => atPos EKern (slotCell (c, s)) 0 ∅ 0

/-- What the other devices owe device `c`. -/
def credits (c : Dev nD) : sProp 𝕄 :=
  iprop(cred (tallyAt (barCell c) () 2) ∗ bigSep Finset.univ fun k => cred (tallyAt (recvCell c k) () N))

/-- What device `c`'s run starts from, besides its buffers. -/
def outset (c : Dev nD) : sProp 𝕄 := iprop(∃ κ, known m κ ∗ places c ∗ tokens c ∗ credits c)

/-- What it ends with, besides its buffers: every counter of its own at zero. -/
def spent (c : Dev nD) : sProp 𝕄 := bigSep Finset.univ fun s : Slot => semVal (slotCell (c, s)) 0

/-- The staged buffers, the debts and the side resources of device `c` before and after its single grid point. -/
def dats (_ : Fin 1) (c : Dev nD) : Dat τ (Elt F) Unit ℕ Own ℕ cfg0 c where
  A w := m ((cfg0.win w).arr.view.loc (c : Thread nD τ))
  after w _ := match w with
    | ⟨0, _⟩ => xAt m c
    | ⟨1, _⟩ => gathered m
  Φ t := match t with
    | ⟨0, _⟩ => outset m c
    | ⟨_ + 1, _⟩ => spent c
  q _ := fullShare
  owed t := match t with
    | ⟨0, _⟩ => owing₀ c
    | ⟨_ + 1, _⟩ => 0

/-! ## Small steps on the buffers -/

omit [FloatOps F] in
/-- A half block with any contents is leave for the transfer that lands on it. -/
theorem grant_intro (k : Fin 6) (c : Dev nD) (f : Buf (Elt F) ((c : Thread nD τ).loc cc0_stg1_0)) :
    (held c fullShare (landing k c) f : sProp 𝕄) ⊢ grant (src k c) k := by
  have h := tgt_src k c
  generalize src k c = d at h ⊢
  subst h
  rw [landing_tgt]
  unfold grant
  iintro H
  iexists f; iexact H

omit [FloatOps F] in
/-- Owning a whole buffer as the pipeline states it. -/
theorem owns_whole (c : Dev nD) (b : Ref sig .tc) (X : b.ty.Contents (Elt F)) :
    (owns (Ix := Unit) (Name := ℕ) (U := Own) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

section Buffers

variable (c : Dev nD)

/-- A load of half block `b` of the result, whatever it holds. -/
theorem wp_peek {α : Type} {Q : α → sProp 𝕄} (b : Blk) (f : (cc0_stg1_0 : Ref sig .tc).ty.Contents (Elt F)) {off : Fin 2 → ℕ} {inb : ∀ a, off a + S256x512.size a ≤ S2048x512.size a} (e : off = blkOff b)
    {hl : oM.view.LoadsAt (Rect.unit (s := S2048x512) off S256x512.size inb).toLoadRect}
    {k : (S256x512.Idx → Elt F .bf16) → Prog (TpuEff nD τ sig (Elt F) Λ₀ .tc) α} :
    (held c fullShare b f : sProp 𝕄)
      ⊢ iprop((∀ w, held c fullShare b f -∗ wp frame (wpE (defs₀ (F := F)) vars (c : Thread nD τ) none) Set.univ (k w) Q)
          -∗ wp frame (wpE (defs₀ (F := F)) vars (c : Thread nD τ) none) Set.univ
              (.op (.load oM (Rect.unit (s := S2048x512) off S256x512.size inb).toLoadRect hl) k) Q) := by
  subst e
  unfold held
  iintro H Hk
  iapply (wp_load_rect vars (c : Thread nD τ) none Set.univ (m := oM) (r := blkRect b) (S := (blk b).view.set) (fun _ h => h)) $$ H
  iintro H
  iapply Hk $$ %_; iexact H

/-- The store of half `h` of the device's argument to its own half block of the result. -/
theorem wp_fill {α : Type} {Q : α → sProp 𝕄} (h : Fin 2) (f : (cc0_stg1_0 : Ref sig .tc).ty.Contents (Elt F)) {off : Fin 2 → ℕ} {inb : ∀ a, off a + S256x512.size a ≤ S2048x512.size a} (e : off = blkOff (c, h))
    {w : S256x512.Idx → Elt F .bf16} (hw : w = xM.view.readAt (Elt F) (xRect h).toLoadRect (xAt m c))
    {hx hm} {k : PUnit → Prog (TpuEff nD τ sig (Elt F) Λ₀ .tc) α} :
    (held c fullShare (c, h) f : sProp 𝕄)
      ⊢ iprop((held c fullShare (c, h) (gathered m) -∗ wp frame (wpE (defs₀ (F := F)) vars (c : Thread nD τ) none) Set.univ (k ⟨⟩) Q)
          -∗ wp frame (wpE (defs₀ (F := F)) vars (c : Thread nD τ) none) Set.univ
              (.op (.store oM (Rect.unit (s := S2048x512) off S256x512.size inb) w Finset.univ hx hm) k) Q) := by
  subst e hw
  rw [← held_store m c c fullShare h f]
  unfold held
  exact wp_store vars (c : Thread nD τ) none Set.univ (m := oM) (r := blkRect (c, h)) (Mk := Finset.univ) (S := (blk (c, h)).view.set) (fun _ h => h)

end Buffers

/-! ## Where the program's offsets point -/

section Offsets

variable (c : Dev nD)

/-- A device writes and sends its own two half blocks: the offset of the upper one. -/
theorem off1_0 : k0_off1 c 0#32 = blkOff (c, 0) := k0_off1_eq c 0
/-- The offset of a device's own lower half. -/
theorem off1_1 : k0_off1 c 256#32 = blkOff (c, 1) := k0_off1_eq c 1
/-- The same upper half, as the transfers to the left compute it. -/
theorem off2_0 : k0_off2 c 0#32 = blkOff (c, 0) := k0_off2_eq c 0
/-- The same lower half, as the transfers to the left compute it. -/
theorem off2_1 : k0_off2 c 256#32 = blkOff (c, 1) := k0_off2_eq c 1
/-- It forwards one half block of each neighbour: the offset of the left neighbour's upper half. -/
theorem off3_0 : k0_off3 c 0#32 = blkOff (lft c, 0) := k0_off3_eq c 0
/-- The offset of the right neighbour's lower half. -/
theorem off4_1 : k0_off4 c 1#32 256#32 = blkOff (rgt c, 1) := k0_off4_eq c 0 1

end Offsets

end Cert.Gather

end
-- ==== Proof.Run.lean ====
/- The run of one device's body. -/
module

public import proofs.«01_k».proof.Proof.Body
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Own ℕ

variable (m : (ℓ : Loc nD τ sig) → Buf (Elt F) ℓ)

/-- A whole buffer of device `c` at contents `X`. -/
abbrev full (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body: the side resources, the debts, the argument staged, the result's buffer with any contents. -/
def before (c : Dev nD) : sProp 𝕄 :=
  iprop(outset m c ∗ (∃ W, owes (c : Thread nD τ) (owing₀ c) W) ∗ full c cc0_stg0_0 (xAt m c) ∗ ∃ X, full c cc0_stg1_0 X)

/-- After it: the counters at zero, no debt, the argument as it was, the result's buffer at the gathered array. -/
def afterwards (c : Dev nD) : sProp 𝕄 :=
  iprop(spent c ∗ debt c [] ∗ full c cc0_stg0_0 (xAt m c) ∗ full c cc0_stg1_0 (gathered m))

omit [FloatOps F] in
/-- The eight half blocks of the result make it whole. -/
theorem assemble (c : Dev nD) (f : Buf (Elt F) ((c : Thread nD τ).loc cc0_stg1_0)) :
    (((c : Thread nD τ).loc cc0_stg1_0) ↦{fullShare} f : sProp 𝕄)
      = iprop((held c fullShare (c, 0) f ∗ held c fullShare (c, 1) f) ∗ (held c fullShare (lft c, 0) f ∗ held c fullShare (lft c, 1) f)
        ∗ (held c fullShare (rgt c, 0) f ∗ held c fullShare (rgt c, 1) f) ∗ (held c fullShare (opp c, 0) f ∗ held c fullShare (opp c, 1) f)) := by
  rw [whole_eq_halves, bigSep_around c]

set_option maxHeartbeats 1600000 in
/-- The body's run on device `c`. -/
theorem body_run (c : Dev nD) (Q : PUnit → sProp 𝕄) :
    iprop(before m c ∗ (afterwards m c -∗ Q ⟨⟩))
      ⊢ wp frame (wpE (defs₀ (F := F)) vars (c : Thread nD τ) none) Set.univ
          (cc0_body xM (Memref.isWhole_whole _) oM (Memref.isWhole_whole _) cc0_scratch0 cc0_scratch1) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold before outset places tokens credits
  rw [bigSep_slots]
  simp only [bigSep_six]
  iintro ⟨⟨⟨%κ, #HK, ⟨Hab, ⟨Hs0, Hs1, Hs2, Hs3, Hs4, Hs5⟩, Hr0, Hr1, Hr2, Hr3, Hr4, Hr5⟩,
      ⟨Htl, Htr, ⟨Ts0, Ts1, Ts2, Ts3, Ts4, Ts5⟩, Tr0, Tr1, Tr2, Tr3, Tr4, Tr5⟩, Hcb, Cr0, Cr1, Cr2, Cr3, Cr4, Cr5⟩,
    ⟨%W, HO⟩, ⟨%gx, %hgx, Hx⟩, ⟨%X, %go, %hgo, Ho⟩⟩, HQ⟩
  subst hgx
  ihave Ho' := (Entails.of_eq (assemble c go)) $$ Ho
  icases Ho' with ⟨⟨Ha0, Ha1⟩, ⟨Hl0, Hl1⟩, ⟨Hn0, Hn1⟩, Hp0, Hp1⟩
  -- leave for the left neighbour to send to this device, then for the right one
  unfold owing₀
  iapply (wp_hail m κ c (lft c) false (Fin.ext (k0_dev1_eq c)) (by decide) (owing c order + tallyAt (barCell (rgt c)) () 1)) $$ [HO Htl Hl0 Hl1 Hp0]
  · isplitr; · iexact HK
    isplitl [HO]; · iexact HO
    isplitl [Htl]; · iexact Htl
    rw [barPay_false]
    isplitl [Hl0]; · iapply (grant_intro 0 c go); iexact Hl0
    isplitl [Hl1]; · iapply (grant_intro 1 c go); iexact Hl1
    iapply (grant_intro 4 c go); iexact Hp0
  iintro HO
  iapply (wp_hail m κ c (rgt c) true (Fin.ext (k0_dev2_eq c)) (by decide) (owing c order)) $$ [HO Htr Hn0 Hn1 Hp1]
  · isplitr; · iexact HK
    isplitl [HO]; · iexact HO
    isplitl [Htr]; · iexact Htr
    rw [barPay_true]
    isplitl [Hn1]; · iapply (grant_intro 2 c go); iexact Hn1
    isplitl [Hn0]; · iapply (grant_intro 3 c go); iexact Hn0
    iapply (grant_intro 5 c go); iexact Hp1
  iintro HO
  -- both neighbours have given theirs
  iapply (wp_meet m κ c (by decide) order) $$ [HO Hcb Hab]
  · isplitr; · iexact HK
    isplitl [HO]; · iexact HO
    isplitl [Hcb]; · iexact Hcb
    iexact Hab
  rw [barPay_false, barPay_true]
  iintro ⟨HO, Zb, ⟨G0, G1, G4⟩, G2, G3, G5⟩
  -- the first half of the argument is written, and goes right
  iapply (wp_load vars (c : Thread nD τ) none Set.univ (m := xM) (Finset.subset_univ _)) $$ Hx; iintro Hx
  iapply (wp_peek c (c, 0) go (off1_0 c)) $$ Ha0; iintro %w0 Ha0
  iapply (wp_fill m c 0 go (off1_0 c) (shapeCast_self _ _)) $$ Ha0; iintro Ha0
  ihave Ha0' := (held_split c (c, 0) (gathered m)).1 $$ Ha0
  icases Ha0' with ⟨Ha0, Hb0⟩
  iapply (wp_put m κ c 0 [2, 1, 3, 4, 5] (Fin.ext (k0_dev3_eq c)) (slice_eq_blk (c, 0) (off2_0 c)) rfl rfl) $$ [HO Ha0 G0 Ts0 Tr0]
  · isplitr; · iexact HK
    isplitl [Ha0]; · iexact Ha0
    isplitl [G0]; · iexact G0
    isplitl [HO]; · iexact HO
    isplitl [Ts0] <;> iassumption
  iintro ⟨Cs0, HO⟩
  -- the second half is written, and goes both ways; then the first half goes left
  iapply (wp_load vars (c : Thread nD τ) none Set.univ (m := xM) (Finset.subset_univ _)) $$ Hx; iintro Hx
  iapply (wp_peek c (c, 1) go (off1_1 c)) $$ Ha1; iintro %w1 Ha1
  iapply (wp_fill m c 1 go (off1_1 c) (shapeCast_self _ _)) $$ Ha1; iintro Ha1
  ihave Ha1' := (held_split c (c, 1) (gathered m)).1 $$ Ha1
  icases Ha1' with ⟨Ha1, Hb1⟩
  iapply (wp_put m κ c 2 [1, 3, 4, 5] (Fin.ext (k0_dev4_eq c)) (slice_eq_blk (c, 1) (off2_1 c)) rfl rfl) $$ [HO Hb1 G2 Ts2 Tr2]
  · isplitr; · iexact HK
    isplitl [Hb1]; · iexact Hb1
    isplitl [G2]; · iexact G2
    isplitl [HO]; · iexact HO
    isplitl [Ts2] <;> iassumption
  iintro ⟨Cs2, HO⟩
  iapply (wp_put m κ c 1 [3, 4, 5] (Fin.ext (k0_dev5_eq c)) (slice_eq_blk (c, 1) (off2_1 c)) rfl rfl) $$ [HO Ha1 G1 Ts1 Tr1]
  · isplitr; · iexact HK
    isplitl [Ha1]; · iexact Ha1
    isplitl [G1]; · iexact G1
    isplitl [HO]; · iexact HO
    isplitl [Ts1] <;> iassumption
  iintro ⟨Cs1, HO⟩
  iapply (wp_put m κ c 3 [4, 5] (Fin.ext (k0_dev6_eq c)) (slice_eq_blk (c, 0) (off2_0 c)) rfl rfl) $$ [HO Hb0 G3 Ts3 Tr3]
  · isplitr; · iexact HK
    isplitl [Hb0]; · iexact Hb0
    isplitl [G3]; · iexact G3
    isplitl [HO]; · iexact HO
    isplitl [Ts3] <;> iassumption
  iintro ⟨Cs3, HO⟩
  -- the left neighbour's first half arrives, and goes on to the right
  iapply (wp_take m κ c (true, 0) [4, 5] (by decide) rfl) $$ [HO Cr0 Hr0]
  · isplitr; · iexact HK
    isplitl [HO]; · iexact HO
    isplitl [Cr0]; · iexact Cr0
    iexact Hr0
  rw [xferPay_landed]
  iintro ⟨HO, Zr0, Ar0⟩
  iapply (wp_put m κ c 4 [5] (Fin.ext (k0_dev7_eq c)) (slice_eq_blk (lft c, 0) (off3_0 c)) rfl rfl) $$ [HO Ar0 G4 Ts4 Tr4]
  · isplitr; · iexact HK
    isplitl [Ar0]; · iexact Ar0
    isplitl [G4]; · iexact G4
    isplitl [HO]; · iexact HO
    isplitl [Ts4] <;> iassumption
  iintro ⟨Cs4, HO⟩
  -- the right neighbour's second half arrives, and goes on to the left
  iapply (wp_take m κ c (true, 2) [5] (by decide) rfl) $$ [HO Cr2 Hr2]
  · isplitr; · iexact HK
    isplitl [HO]; · iexact HO
    isplitl [Cr2]; · iexact Cr2
    iexact Hr2
  rw [xferPay_landed]
  iintro ⟨HO, Zr2, Ar2⟩
  iapply (wp_put m κ c 5 [] (Fin.ext (k0_dev8_eq c)) (slice_eq_blk (rgt c, 1) (off4_1 c)) rfl rfl) $$ [HO Ar2 G5 Ts5 Tr5]
  · isplitr; · iexact HK
    isplitl [Ar2]; · iexact Ar2
    isplitl [G5]; · iexact G5
    isplitl [HO]; · iexact HO
    isplitl [Ts5] <;> iassumption
  iintro ⟨Cs5, HO⟩
  -- the other four half blocks arrive
  iapply (wp_take m κ c (true, 1) [] (by decide) rfl) $$ [HO Cr1 Hr1]
  · isplitr; · iexact HK
    isplitl [HO]; · iexact HO
    isplitl [Cr1]; · iexact Cr1
    iexact Hr1
  rw [xferPay_landed]
  iintro ⟨HO, Zr1, Ar1⟩
  iapply (wp_take m κ c (true, 3) [] (by decide) rfl) $$ [HO Cr3 Hr3]
  · isplitr; · iexact HK
    isplitl [HO]; · iexact HO
    isplitl [Cr3]; · iexact Cr3
    iexact Hr3
  rw [xferPay_landed]
  iintro ⟨HO, Zr3, Ar3⟩
  iapply (wp_take m κ c (true, 4) [] (by decide) rfl) $$ [HO Cr4 Hr4]
  · isplitr; · iexact HK
    isplitl [HO]; · iexact HO
    isplitl [Cr4]; · iexact Cr4
    iexact Hr4
  rw [xferPay_landed]
  iintro ⟨HO, Zr4, Ar4⟩
  iapply (wp_take m κ c (true, 5) [] (by decide) rfl) $$ [HO Cr5 Hr5]
  · isplitr; · iexact HK
    isplitl [HO]; · iexact HO
    isplitl [Cr5]; · iexact Cr5
    iexact Hr5
  rw [xferPay_landed]
  iintro ⟨HO, Zr5, Ar5⟩
  -- and the six sent come back
  iapply (wp_take m κ c (false, 0) [] (by decide) rfl) $$ [HO Cs0 Hs0]
  · isplitr; · iexact HK
    isplitl [HO]; · iexact HO
    isplitl [Cs0]; · iexact Cs0
    iexact Hs0
  rw [xferPay_sent]
  iintro ⟨HO, Zs0, As0⟩
  iapply (wp_take m κ c (false, 1) [] (by decide) rfl) $$ [HO Cs1 Hs1]
  · isplitr; · iexact HK
    isplitl [HO]; · iexact HO
    isplitl [Cs1]; · iexact Cs1
    iexact Hs1
  rw [xferPay_sent]
  iintro ⟨HO, Zs1, As1⟩
  iapply (wp_take m κ c (false, 2) [] (by decide) rfl) $$ [HO Cs2 Hs2]
  · isplitr; · iexact HK
    isplitl [HO]; · iexact HO
    isplitl [Cs2]; · iexact Cs2
    iexact Hs2
  rw [xferPay_sent]
  iintro ⟨HO, Zs2, As2⟩
  iapply (wp_take m κ c (false, 3) [] (by decide) rfl) $$ [HO Cs3 Hs3]
  · isplitr; · iexact HK
    isplitl [HO]; · iexact HO
    isplitl [Cs3]; · iexact Cs3
    iexact Hs3
  rw [xferPay_sent]
  iintro ⟨HO, Zs3, As3⟩
  iapply (wp_take m κ c (false, 4) [] (by decide) rfl) $$ [HO Cs4 Hs4]
  · isplitr; · iexact HK
    isplitl [HO]; · iexact HO
    isplitl [Cs4]; · iexact Cs4
    iexact Hs4
  rw [xferPay_sent]
  iintro ⟨HO, Zs4, As4⟩
  iapply (wp_take m κ c (false, 5) [] (by decide) rfl) $$ [HO Cs5 Hs5]
  · isplitr; · iexact HK
    isplitl [HO]; · iexact HO
    isplitl [Cs5]; · iexact Cs5
    iexact Hs5
  rw [xferPay_sent]
  iintro ⟨HO, Zs5, As5⟩
  rw [wp_ret]; imodintro
  iapply HQ
  unfold afterwards spent
  rw [bigSep_slots]
  simp only [bigSep_six]
  isplitl [Zb Zs0 Zs1 Zs2 Zs3 Zs4 Zs5 Zr0 Zr1 Zr2 Zr3 Zr4 Zr5]
  · isplitl [Zb]; · iexact Zb
    isplitl [Zs0 Zs1 Zs2 Zs3 Zs4 Zs5]
    · isplitl [Zs0]; · iexact Zs0
      isplitl [Zs1]; · iexact Zs1
      isplitl [Zs2]; · iexact Zs2
      isplitl [Zs3]; · iexact Zs3
      isplitl [Zs4]; · iexact Zs4
      iexact Zs5
    isplitl [Zr0]; · iexact Zr0
    isplitl [Zr1]; · iexact Zr1
    isplitl [Zr2]; · iexact Zr2
    isplitl [Zr3]; · iexact Zr3
    isplitl [Zr4]; · iexact Zr4
    iexact Zr5
  isplitl [HO]; · iexact HO
  isplitl [Hx]
  · iexists _; isplitr; · (ipureintro; rfl)
    iexact Hx
  iexists _; isplitr; · (ipureintro; rfl)
  iapply (Entails.of_eq (assemble c (gathered m)).symm)
  isplitl [As0 As1 As2 As3]
  · isplitl [As0 As3]
    · iapply (held_split c (c, 0) (gathered m)).2
      isplitl [As0]; · iexact As0
      iexact As3
    iapply (held_split c (c, 1) (gathered m)).2
    isplitl [As1]; · iexact As1
    iexact As2
  isplitl [As4 Ar1]
  · isplitl [As4]; · iexact As4
    iexact Ar1
  isplitl [Ar3 As5]
  · isplitl [Ar3]; · iexact Ar3
    iexact As5
  isplitl [Ar4]; · iexact Ar4
  iexact Ar5

end Cert.Gather

end
-- ==== Proof.Setup.lean ====
/- Setting the protocol up: the cells' invariants made for all devices at once, the tokens dealt to the devices that
   pay with them, and the credit a device gets for what the others owe it. -/
module

public import proofs.«01_k».proof.Proof.Run

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Own ℕ

variable (m : (ℓ : Loc nD τ sig) → Buf (Elt F) ℓ)

/-! ## The cells and the tokens, as they are made -/

/-- All the kernel's cells. -/
def allCells : Finset (GSem nD τ sig) := Finset.univ.map ⟨slotCell, slotCell_injective⟩

/-- The duties of one device's cells: two at the barrier, one at each transfer's semaphore. -/
abbrev Duty : Type := Bool ⊕ (Bool × Fin 6)

/-- Where a duty is paid, in which round, under which name. -/
abbrev dutyAt (cd : Dev nD × Duty) : GSem nD τ sig × ℕ × Bool := match cd.2 with
  | .inl b => (barCell cd.1, 0, b)
  | .inr x => (xferCell cd.1 x, 0, false)

/-- Different duties lie at different places. -/
theorem dutyAt_injective : Function.Injective dutyAt := by
  rintro ⟨c, b | x⟩ ⟨c', b' | x'⟩ h
  · have h1 : c = c' := congrArg (fun p : GSem nD τ sig × ℕ × Bool => p.1.1.1) h
    have h2 : b = b' := congrArg (fun p : GSem nD τ sig × ℕ × Bool => p.2.2) h
    rw [h1, h2]
  · have h1 : (SemLoc.reg barS : SemLoc sig) = .dma (xferS x') := congrArg (fun p : GSem nD τ sig × ℕ × Bool => p.1.2) h
    cases h1
  · have h1 : (SemLoc.dma (xferS x) : SemLoc sig) = .reg barS := congrArg (fun p : GSem nD τ sig × ℕ × Bool => p.1.2) h
    cases h1
  · have h1 : c = c' := congrArg (fun p : GSem nD τ sig × ℕ × Bool => p.1.1.1) h
    have h2 : (SemLoc.dma (xferS x) : SemLoc sig) = .dma (xferS x') := congrArg (fun p : GSem nD τ sig × ℕ × Bool => p.1.2) h
    have h3 : x = x' := xferS_injective (SemLoc.dma.inj h2)
    rw [h1, h3]

/-- All the duties there are. -/
def allDuties : Finset (GSem nD τ sig × ℕ × Bool) := Finset.univ.map ⟨dutyAt, dutyAt_injective⟩

/-- The tokens of the duties of device `c`'s own cells. -/
def minted (c : Dev nD) : sProp 𝕄 :=
  bigSep Finset.univ fun d : Duty => dutyTok EKern (dutyAt (c, d)).1 (dutyAt (c, d)).2.1 (dutyAt (c, d)).2.2

/-- What each device has of its cells before they have invariants. -/
def raw (c : Dev nD) : sProp 𝕄 :=
  iprop((bigSep Finset.univ fun s : Slot => roundState EKern (sched m) (slotCell (c, s)) 0)
    ∗ (bigSep Finset.univ fun s : Slot => reached EKern (slotCell (c, s)) 0) ∗ places c ∗ minted c)

omit [FloatOps F] in
/-- The protocol's state, made. -/
theorem raw_fund : BI.own (EKern (initOf allCells allDuties)) ⊢ (|==> bigSep Finset.univ (raw m) : sProp 𝕄) := by
  have hC (Φ : GSem nD τ sig → sProp 𝕄) :
      bigSep allCells Φ = bigSep Finset.univ fun c : Dev nD => bigSep Finset.univ fun s : Slot => Φ (slotCell (c, s)) := by
    unfold allCells; rw [bigSep_map, bigSep_univ_prod]; rfl
  have hD : bigSep allDuties (fun p => (dutyTok EKern p.1 p.2.1 p.2.2 : sProp 𝕄)) = bigSep Finset.univ fun c : Dev nD => minted c := by
    unfold allDuties; rw [bigSep_map, bigSep_univ_prod]; rfl
  have hR : bigSep Finset.univ (raw m) = iprop((bigSep allCells fun g => roundState EKern (sched m) g 0)
      ∗ (bigSep allCells fun g => reached EKern g 0) ∗ (bigSep allCells fun g => atPos EKern g 0 ∅ 0)
      ∗ bigSep allDuties fun p => dutyTok EKern p.1 p.2.1 p.2.2) := by
    rw [hC, hC, hC, hD]
    unfold raw places
    simp only [bigSep_sep']
  rw [hR]
  exact Rounds.fund EKern (sched m) allCells allDuties

/-! ## The tokens dealt -/

omit [FloatOps F] in
/-- The tokens of a device's own cells, sorted: its barrier's two, its send cells', its receive cells'. -/
theorem minted_eq (c : Dev nD) : (minted c : sProp 𝕄) = iprop((dutyTok EKern (barCell c) 0 false ∗ dutyTok EKern (barCell c) 0 true)
    ∗ (bigSep Finset.univ fun k => dutyTok EKern (sendCell c k) 0 false) ∗ bigSep Finset.univ fun k => dutyTok EKern (recvCell c k) 0 false) := by
  unfold minted
  rw [bigSep_univ_sum, bigSep_univ_prod, bigSep_univ_eq_bigSepL [false, true] (by decide) (by decide), bigSepL_cons_cons, bigSepL_singleton,
    bigSep_univ_eq_bigSepL [false, true] (by decide) (by decide), bigSepL_cons_cons, bigSepL_singleton]
  rfl

omit [FloatOps F] in
/-- The tokens move to those who pay with them: a barrier's two tokens to the two neighbours, a receive cell's to the
    device whose transfer it counts; a send cell's stays. -/
theorem deal : (bigSep Finset.univ fun c : Dev nD => (minted c : sProp 𝕄)) = bigSep Finset.univ fun c : Dev nD => tokens c := by
  have hr : (bigSep Finset.univ fun c : Dev nD => bigSep Finset.univ fun k : Fin 6 => (dutyTok EKern (recvCell c k) 0 false : sProp 𝕄))
      = bigSep Finset.univ fun c : Dev nD => bigSep Finset.univ fun k : Fin 6 => dutyTok EKern (recvCell (tgt k c) k) 0 false := by
    rw [BI.bigSep_univ_comm, BI.bigSep_univ_comm (fun (c : Dev nD) (k : Fin 6) => (dutyTok EKern (recvCell (tgt k c) k) 0 false : sProp 𝕄))]
    exact bigSep_congr fun k _ => bigSep_univ_equiv (along k) _
  unfold tokens
  simp only [minted_eq, bigSep_sep']
  rw [hr, bigSep_univ_equiv turn.symm (fun c : Dev nD => (dutyTok EKern (barCell c) 0 false : sProp 𝕄)),
    bigSep_univ_equiv turn (fun c : Dev nD => (dutyTok EKern (barCell c) 0 true : sProp 𝕄))]
  exact equiv_iff.mp ⟨BI.sep_assoc, BI.sep_assoc'⟩

/-! ## The invariants made -/

omit [FloatOps F] in
/-- The kernel's own semaphores and the barrier, at zero, are its cells' counters at zero. -/
theorem counters (c : Dev nD) :
    iprop(Pipeline.ownSems0 (Ix := Unit) (Name := ℕ) (U := Own) (Lvl := ℕ) (Val := Elt F) (τ := τ) ownSem c ∗ unscopedSems0 c) = (spent c : sProp 𝕄) := by
  have hb : (unscopedSems0 c : sProp 𝕄) = semVal (barCell c) 0 := by
    unfold unscopedSems0; rw [bigSep_eq_bigSepL_of_eq [SemLoc.reg barS] (by decide) (by decide)]; rfl
  have hs : (spent c : sProp 𝕄) = iprop(semVal (barCell c) 0
      ∗ Pipeline.ownSems0 (Ix := Unit) (Name := ℕ) (U := Own) (Lvl := ℕ) (Val := Elt F) (τ := τ) ownSem c) := by
    unfold spent Pipeline.ownSems0
    rw [bigSep_univ_sum, bigSep_univ_eq_bigSepL [()] (by decide) (by decide), bigSepL_singleton]
    rfl
  rw [hb, hs]
  exact BI.Entails.antisymm sep_comm sep_comm

/-- What a device has once its cells have invariants, under names yet to be chosen. -/
def opened (c : Dev nD) : sProp 𝕄 :=
  iprop((bigSep Finset.univ fun s : Slot => iprop(∃ κ : ℕ, cellInv EKern (sched m) κ (slotCell (c, s))))
    ∗ (bigSep Finset.univ fun s : Slot => reached EKern (slotCell (c, s)) 0) ∗ places c ∗ minted c)

omit [FloatOps F] in
/-- One device's counters at zero and raw state make its cells' invariants. -/
theorem open_cells (c : Dev nD) :
    iprop(Pipeline.ownSems0 (Ix := Unit) (Name := ℕ) (U := Own) (Lvl := ℕ) (Val := Elt F) (τ := τ) ownSem c ∗ unscopedSems0 c ∗ raw m c)
      ⊢ |={Set.univ}=> opened m c := by
  have hi : iprop(spent c ∗ bigSep Finset.univ fun s : Slot => roundState EKern (sched m) (slotCell (c, s)) 0)
      ⊢ (|={Set.univ}=> bigSep Finset.univ fun s : Slot => iprop(∃ κ : ℕ, cellInv EKern (sched m) κ (slotCell (c, s))) : sProp 𝕄) := by
    unfold spent
    rw [← bigSep_sep']
    exact (bigSep_mono fun s _ => (Rounds.body_intro EKern (sched m) (slotCell (c, s))).trans inv_alloc).trans (bigSep_fupd _ _)
  unfold raw opened
  iintro ⟨Ho, Hu, Hst, Hre, Hpl, Hmi⟩
  ihave Hz := (Entails.of_eq (counters (F := F) c)) $$ [Ho Hu]
  · isplitl [Ho] <;> iassumption
  imod hi $$ [Hz Hst] with Hi
  · isplitl [Hz] <;> iassumption
  imodintro
  isplitl [Hi]; · iexact Hi
  isplitl [Hre]; · iexact Hre
  isplitl [Hpl] <;> iassumption

/-- What a device has once the cells are set up. -/
def ready (c : Dev nD) : sProp 𝕄 :=
  iprop(∃ κ : Dev nD × Slot → ℕ, ((bigSep Finset.univ fun cs : Dev nD × Slot => cellInv EKern (sched m) (κ cs) (slotCell cs))
    ∗ (bigSep Finset.univ fun cs : Dev nD × Slot => reached EKern (slotCell cs) 0)) ∗ places c ∗ tokens c)

omit [FloatOps F] in
/-- A persistent fact goes to every device. -/
theorem bigSep_share {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
/-- The names of all devices' invariants are gathered into one table, which every device then has; the tokens are dealt. -/
theorem opened_ready : (bigSep Finset.univ fun c : Dev nD => opened m c) ⊢ bigSep Finset.univ (ready m) := by
  unfold opened
  simp only [bigSep_sep']
  rw [deal, ← bigSep_univ_prod (fun cs : Dev nD × Slot => iprop(∃ κ : ℕ, cellInv EKern (sched m) κ (slotCell cs))),
    ← bigSep_univ_prod (fun cs : Dev nD × Slot => (reached EKern (slotCell cs) 0 : sProp 𝕄))]
  iintro ⟨HI, #HR, Hpl, Htk⟩
  ihave HK := (BI.bigSep_exists_pi Finset.univ (fun (cs : Dev nD × Slot) (κ : ℕ) => (cellInv EKern (sched m) κ (slotCell cs) : sProp 𝕄))) $$ HI
  icases HK with ⟨%κ, #HI⟩
  iapply (bigSep_share (R := iprop((bigSep Finset.univ fun cs : Dev nD × Slot => cellInv EKern (sched m) (κ cs) (slotCell cs))
    ∗ bigSep Finset.univ fun cs : Dev nD × Slot => reached EKern (slotCell cs) 0)) (Φ := fun c => iprop(places c ∗ tokens c)) (Ψ := ready m)
    (fun c => by unfold ready; iintro H; iexists κ; iexact H))
  isplitr
  · isplitl; · iexact HI
    iexact HR
  rw [bigSep_sep']
  isplitl [Hpl] <;> iassumption

omit [FloatOps F] in
/-- Every device's cells set up in one step. -/
theorem set_up : (bigSep Finset.univ fun c : Dev nD => iprop(Pipeline.ownSems0 (Ix := Unit) (Name := ℕ) (U := Own) (Lvl := ℕ) (Val := Elt F) (τ := τ) ownSem c
      ∗ unscopedSems0 c ∗ raw m c) : sProp 𝕄)
    ⊢ |={Set.univ}=> bigSep Finset.univ (ready m) :=
  ((bigSep_mono fun c _ => open_cells m c).trans (bigSep_fupd _ _)).trans (BI.fupd_mono (opened_ready m))

/-! ## The credit -/

omit [FloatOps F] in
/-- A device's credit for one transfer of every device. -/
theorem credit_one (c : Dev nD) (k : Fin 6) (ks : List (Fin 6)) :
    (Pipeline.launchCred (fun d => owing d (k :: ks)) c : sProp 𝕄)
      ⊢ iprop(Pipeline.launchCred (fun d => owing d ks) c ∗ cred (tallyAt (recvCell c k) () N)) := by
  rw [show (fun d => owing d (k :: ks)) = fun d => owing d ks + tallyAt (recvCell (tgt k d) k) () N from rfl, Pipeline.launchCred_add]
  exact sep_mono_right (Pipeline.launchCred_tallyAt (ownSem (true, k)) (tgt k) (src k) (tgt_src k) (src_tgt k) () N c)

omit [FloatOps F] in
/-- What the devices owe at launch is, cell by cell, what their owners are owed. -/
theorem credits_intro (c : Dev nD) : (Pipeline.launchCred owing₀ c : sProp 𝕄) ⊢ credits c := by
  rw [show (owing₀ : Dev nD → CellTallies nD τ sig Unit)
      = fun d => (fun d => owing d order + tallyAt (barCell (rgt d)) () 1) d + tallyAt (barCell (lft d)) () 1 from rfl,
    Pipeline.launchCred_add, Pipeline.launchCred_add]
  unfold credits
  rw [bigSep_six]
  iintro ⟨⟨H, Hr⟩, Hl⟩
  ihave H := (credit_one c 0 _) $$ H; icases H with ⟨H, H0⟩
  ihave H := (credit_one c 2 _) $$ H; icases H with ⟨H, H2⟩
  ihave H := (credit_one c 1 _) $$ H; icases H with ⟨H, H1⟩
  ihave H := (credit_one c 3 _) $$ H; icases H with ⟨H, H3⟩
  ihave H := (credit_one c 4 _) $$ H; icases H with ⟨H, H4⟩
  ihave H := (credit_one c 5 _) $$ H; icases H with ⟨H, H5⟩
  ihave Hr := (Pipeline.launchCred_tallyAt (.reg barS) rgt lft rgt_lft lft_rgt () 1 c) $$ Hr
  ihave Hl := (Pipeline.launchCred_tallyAt (.reg barS) lft rgt lft_rgt rgt_lft () 1 c) $$ Hl
  isplitl [Hr Hl]
  · rw [show (tallyAt (barCell c) () 2 : CellTallies nD τ sig Unit) = tallyAt (barCell c) () 1 + tallyAt (barCell c) () 1 from (tallyAt_add _ _ 1 1).symm]
    iapply (cred_add _ _).2
    isplitl [Hr] <;> iassumption
  isplitl [H0]; · iexact H0
  isplitl [H1]; · iexact H1
  isplitl [H2]; · iexact H2
  isplitl [H3]; · iexact H3
  isplitl [H4]; · iexact H4
  iexact H5

end Cert.Gather

end
-- ==== Proof.Launch.lean ====
/- The launch: the four devices' bodies under the grid's pipeline, the kernel's cells set up for all devices at
   once, and the run of the whole program. -/
module

public import proofs.«01_k».proof.Proof.Setup
public import proofs.«01_k».proof.Proof.Gen.KernelIdeal.Points
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Own ℕ

variable (m : (ℓ : Loc nD τ sig) → Buf (Elt F) ℓ) (ρ : Dev nD → PrngReg)

/-! ## The body under the pipeline -/

set_option maxRecDepth 4000 in
/-- What the pipeline hands the body at the grid's one point. -/
def handed (c : Dev nD) : sProp 𝕄 :=
  iprop(outset m c ∗ (dats m 0 c).owesAt () (t0_0 : Fin cfg0.N).castSucc
    ∗ (∃ d, full c cc0_stg0_0 ((dats m 0 c).before (0 : Fin 2) t0_0 d))
    ∗ ∃ d, full c cc0_stg1_0 ((dats m 0 c).before (1 : Fin 2) t0_0 d))

set_option maxRecDepth 4000 in
/-- What the pipeline wants back. -/
def wanted (c : Dev nD) : sProp 𝕄 :=
  iprop(spent c ∗ (dats m 0 c).owesAt () (t0_0 : Fin cfg0.N).succ ∗ full c cc0_stg0_0 (xAt m c) ∗ full c cc0_stg1_0 (gathered m))

/-- What the pipeline hands over is what the run of the body starts from. -/
theorem handed_before (c : Dev nD) : handed m c ⊢ before m c := by
  unfold handed before
  iintro ⟨Ho, HO, ⟨%d, %f, %hf, Hx⟩, %d', Hr⟩
  have hf' : f = xAt m c := by
    rw [hf]; unfold Dat.before; rw [if_pos (fetch0_0 t0_0)]; rfl
  unfold Dat.owesAt Pipeline.owesWithin
  icases HO with ⟨%W, -, HO⟩
  isplitl [Ho]; · iexact Ho
  isplitl [HO]; · iexists W; iexact HO
  isplitl [Hx]
  · iexists f; isplitr; · (ipureintro; exact hf')
    iexact Hx
  iexists _; iexact Hr

/-- What the run of the body ends with is what the pipeline wants back. -/
theorem afterwards_wanted (c : Dev nD) : afterwards m c ⊢ wanted m c := by
  unfold afterwards wanted debt Dat.owesAt Pipeline.owesWithin
  rw [show (dats m 0 c).owed (t0_0 : Fin cfg0.N).succ = 0 from rfl]
  iintro ⟨Hz, ⟨%W, HO⟩, Hx, Hr⟩
  isplitl [Hz]; · iexact Hz
  isplitl [HO]
  · iexists W; isplitr; · (ipureintro; exact fun _ _ => Or.inl trivial)
    iexact HO
  isplitl [Hx]; · iexact Hx
  iexact Hr

set_option maxRecDepth 4000 in
/-- The body meets the pipeline's demand on every device. -/
theorem body_meets (c : Dev nD) : BodyObligation (dats (F := F) m 0 c) (defs₀ (F := F)) vars () Set.univ := fun t => by
  rw [fin_N0 t, bigSep_W0, bigSep_W0]
  simp only [owns_whole]
  show handed m c ⊢ wp frame (wpE (defs₀ (F := F)) vars (c : Thread nD τ) none) Set.univ
    (cc0_body xM (Memref.isWhole_whole _) oM (Memref.isWhole_whole _) cc0_scratch0 cc0_scratch1) (fun _ => wanted m c)
  iintro H
  iapply (body_run m c fun _ => wanted m c)
  isplitl [H]; · iapply (handed_before m c); iexact H
  iintro H; iapply (afterwards_wanted m c); iexact H

/-! ## The whole program's run -/

/-- The kernel's twelve transfer semaphores are its own: scoped, distinct, and none the pipeline's. -/
theorem own_facts : Pipeline.OwnSemFacts cfg0.spec ownSem := by decide

/-- The protocol's state at launch, the pipeline's and the kernel's. -/
def birth : Own := (initOf (Pipeline.cells cfgs cellOf_inj) (Pipeline.launchToks cfgs cellOf_inj), initOf allCells allDuties)

omit [FloatOps F] in
/-- That state is the pipeline's part and, for every device, the raw state of its cells. -/
theorem birth_split : (ownU birth : sProp 𝕄)
    ⊢ |={Set.univ}=> iprop(BI.own (EPipe (initOf (Pipeline.cells cfgs cellOf_inj) (Pipeline.launchToks cfgs cellOf_inj))) ∗ bigSep Finset.univ (raw m)) := by
  unfold birth
  iintro H
  ihave H := (ownU_pair _ _) $$ H
  icases H with ⟨HP, HK⟩
  imod (raw_fund m) $$ HK with HK
  imodintro
  isplitl [HP] <;> iassumption

omit [FloatOps F] in
/-- What a device has when it starts: what it knows, its places, its tokens and its credit. -/
theorem outset_intro (c : Dev nD) :
    iprop(Pipeline.unscopedRestP Pipeline.Prefetch.none cfg0.spec c (fun b => m ((c : Thread nD τ).loc b)) ∗ levAts L lv
        ∗ Pipeline.launchCred owing₀ c ∗ prngReg c (ρ c) ∗ ready m c)
      ⊢ |={Set.univ}=> iprop(outset m c ∗ emp) := by
  unfold ready outset known
  iintro ⟨-, Hl, Hc, -, %κ, ⟨HI, HR⟩, Hp, Ht⟩
  ihave Hc := (credits_intro (F := F) c) $$ Hc
  imodintro
  isplitl
  · iexists κ
    isplitl [HI HR Hl]
    · isplitl [HI]; · iexact HI
      isplitl [HR]; · iexact HR
      iexact Hl
    isplitl [Hp]; · iexact Hp
    isplitl [Ht] <;> iassumption
  · iempintro

/-- What a device starts with is what the first point asks for; nothing scoped is left over. -/
theorem first_intro (c : Dev nD) :
    iprop(outset m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = outset m c from rfl]
  iintro ⟨H, -, -⟩
  iexact H

/-- What the last point leaves is every semaphore of the kernel and the barrier at zero. -/
theorem last_elim (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = spent c from rfl, scopedRest0_eq, ← counters c]
  iintro ⟨Ho, Hu⟩
  isplitl [Hu]; · iexact Hu
  isplitl [Ho]; · iexact Ho
  iempintro

/-- The pipeline's own waits lie below everything a device owes. -/
theorem stage_waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

set_option maxRecDepth 8000 in
/-- For any float values, from any memory with every counter at zero: all weakly fair executions of the program on the
    four devices end, each with every window's array as the bodies leave it and every counter back at zero. -/
theorem run_main : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EPipe defs₀ vars m ρ main
    (hmain := fun _ => rfl) (hbody := body_meets m)
    (hne := fun w => by fin_cases w <;> exact Nat.succ_pos _) (harr := arr_whole0) (hstage := stage_whole0)
    (hshare := fun c w => by unfold Dat.share; split <;> rfl) (hdistinct := winFacts0.arr_inj)
    (O₀ := owing₀) (howed₀ := fun _ => rfl) (howedN := fun _ => rfl)
    (L := L) (lv := lv) (hL := L_of_ne) (hwaits := stage_waits m)
    (G := raw m) (G' := ready m) (u₀ := birth) (hu₀ := birth_split m) (hglob := set_up m)
    (hA := fun _ _ => rfl) (hpf := fun _ k => k.elim0)
    (X := outset m) (Y := fun c => unscopedSems0 c) (Z := fun _ => iprop(emp))
    (hX := outset_intro m ρ) (hin := first_intro m) (hout := last_elim m)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Result.lean ====
/- What the program's arrays hold at the end: the argument as it was, the result the gathered array; and, when the
   devices' arguments are the four blocks of one array, that array. -/
module

public import proofs.«01_k».proof.Proof.Launch
public import Idealize.ShloMosaic.Lib.Layout

@[expose] public section

noncomputable section

namespace Cert.Gather

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The first window only reads: its array ends as it began. -/
theorem end_arg (c : Dev nD) : (dats m 0 c).arrAt (0 : Fin 2) cfg0.N = m ((c : Thread nD τ).loc main_arg0) :=
  (dats m 0 c).arrAt_in (0 : Fin 2) rfl _

/-- The first window's one block is the whole argument. -/
theorem read_arg (f : main_arg0.ty.Contents (Elt F)) : (win0_0.blk (0 : Fin 1)).view.read (Elt F) f = f :=
  Memref.read_access_unit_zero (Elt F) main_arg0 (funext fun a => by fin_cases a <;> decide) (fun a => by fin_cases a <;> decide) f

/-- The second window's one block is the whole result. -/
theorem read_result (f : main_v1.ty.Contents (Elt F)) : (win0_1.blk (0 : Fin 1)).view.read (Elt F) f = f :=
  Memref.read_access_unit_zero (Elt F) main_v1 (funext fun a => by fin_cases a <;> decide) (fun a => by fin_cases a <;> decide) f

/-- What device `c`'s body stages is its argument. -/
theorem xAt_eq (c : Dev nD) : xAt m c = m ((c : Thread nD τ).loc main_arg0) := read_arg _

/-- The second window is written out once, whole: its array ends as the gathered one. -/
theorem end_result (c : Dev nD) : (dats m 0 c).arrAt (1 : Fin 2) cfg0.N = gathered m := by
  have h := (dats m 0 c).arrAt_succ (1 : Fin 2) (0 : Fin 1)
  rw [show (cfg0.win (1 : Fin 2)).flush (0 : Fin 1) = true from by decide, if_pos rfl] at h
  refine (read_result _).symm.trans ?_
  refine (congrArg ((win0_1.blk (0 : Fin 1)).view.read (Elt F)) h).trans ?_
  exact View.read_write_univ _ _

/-- All executions end with every argument as it was, every result the gathered array and every counter at zero. -/
theorem run_gathered : θ_run defs (onTc (τ := τ) (main (F := F))) ⟨m, fun _ => 0, ρ⟩ (fun r =>
    (∀ c : Dev nD, r.2.mem ((c : Thread nD τ).loc main_v1) = gathered m
        ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (end_result m c), (h.1 c (0 : Fin 2)).trans (end_arg m c)⟩, h.2⟩)
    (run_main m ρ)

/-- If the devices' arguments are the four blocks of one array along its rows, what is gathered is that array. -/
theorem gathered_eq (X : S2048x512.Idx → Elt F main_v1.ty.elt) (ht : Layout.Tiles ⟨2, ![512, 512]⟩ ⟨2, ![2048, 512]⟩ 0 4)
    (hX : ∀ c : Dev nD, m ((c : Thread nD τ).loc main_arg0) = Layout.block ⟨2, ![512, 512]⟩ ⟨2, ![2048, 512]⟩ 0 4 c X ht) :
    gathered m = X := by
  funext i
  unfold gathered
  rw [xAt_eq, hX, Layout.block_apply]
  refine congrArg X (funext fun a => Fin.ext ?_)
  have hv := Layout.idx_rows_val ht
  fin_cases a
  · refine (hv _ _).1.trans ?_
    show (i 0).val / 512 * 512 + (i 0).val % 512 = (i 0).val
    omega
  · exact (hv _ _).2

end Cert.Gather

end
-- ==== Proof.Same.lean ====
/- The program as it is printed and the program read at the ideal values have one text: their tables of bodies and
   their mains are the same. -/
module

public import proofs.«01_k».proof.Proof.Gen.Kernel
public import proofs.«01_k».proof.Proof.Gen.KernelIdeal
public import Idealize.ShloMosaic.Adequacy
public import Idealize.ShloMosaic.Init

@[expose] public section

noncomputable section

namespace Cert.Gather

open Idealize.ShloMosaic Idealize.SL.Sem

variable {F : FTy → Type} [FloatOps F]

/-- The kernels' table has one kernel, whose body reads the same in both. -/
theorem kernels_same : Cert.KernelIdeal.defs₀ (F := F) = Cert.Kernel.defs₀ (F := F) := by
  unfold Cert.KernelIdeal.defs₀ Cert.Kernel.defs₀
  show Defs.onTc _ = Defs.onTc _
  congr 1
  funext ℓ x
  match ℓ, x with
  | 0, (t, s) => rfl

/-- So the whole tables of bodies are the same. -/
theorem defs_same : Cert.KernelIdeal.defs (F := F) = Cert.Kernel.defs (F := F) :=
  congrArg (Pipeline.defs Cert.Kernel.pcfgs) kernels_same

/-- So a run of the one is a run of the other. -/
theorem run_same {s : MemSt Cert.Kernel.nD Cert.Kernel.τ Cert.Kernel.sig (Elt F)}
    {Q : PUnit × MemSt Cert.Kernel.nD Cert.Kernel.τ Cert.Kernel.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [← defs_same]
  exact h

end Cert.Gather

end
-- ==== Proof.Whole.lean ====
/- The reference's run: it returns its argument, and performs no operation. -/
module

public import proofs.«01_k».proof.Proof.Gen.ReferenceIdeal
public import proofs.«01_k».proof.Proof.Gen.Reference
public import Idealize.ShloMosaic.Lib.StableHlo.Run
public import Idealize.ShloMosaic.Lib.Quiescent

@[expose] public section

noncomputable section

namespace Cert.Whole

open Cert.Reference Cert.Reference.Gen
open Idealize.ShloMosaic Idealize.ShloMosaic.TcCoe Idealize.SL.Sem

variable {F : FTy → Type} [FloatOps F]

/-- All executions of the reference end, its array as it was and every counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Result
public import proofs.«01_k».proof.Proof.Same
public import proofs.«01_k».proof.Proof.Whole

@[expose] public section

noncomputable section

namespace Cert.Proof

open Idealize.ShloMosaic Idealize.SL.Sem

/-- The program as it is printed ends on all executions, its arguments as they were, every counter at zero. -/
theorem frame_kernel : Cert.quiescent_Kernel := fun m ρ _ =>
  Cert.Gather.run_same ((θ_run Cert.KernelIdeal.defs _ _).mono (fun _ h => ⟨fun c => (h.1 c).2, h.2⟩)
    (Cert.Gather.run_gathered (F := Bits) m ρ))

/-- So does the program at the ideal values. -/
theorem frame_kernel_ideal : Cert.quiescent_KernelIdeal := fun m ρ _ =>
  (θ_run Cert.KernelIdeal.defs _ _).mono (fun _ h => ⟨fun c => (h.1 c).2, h.2⟩) (Cert.Gather.run_gathered (F := Ideal) m ρ)

/-- So does the reference at the ideal values. -/
theorem frame_reference_ideal : Cert.quiescent_ReferenceIdeal := fun m ρ _ => Cert.Whole.run_main (F := Ideal) m ρ

/-- So does the reference as it is printed. -/
theorem frame_reference : Cert.quiescent_Reference := fun m ρ _ => Cert.Whole.run_main (F := Bits) m ρ

/-- At the ideal values, every device ends with the reference's whole result, which is its argument. -/
theorem algebraic : Cert.algebraic_KernelIdeal_ReferenceIdeal := fun m ρ m' ρ' _ hX =>
  ⟨_, (θ_run Cert.KernelIdeal.defs _ _).mono (fun _ h c => ⟨((h.1 c).1).trans (Cert.Gather.gathered_eq m _ _ hX), (h.1 c).2⟩)
      (Cert.Gather.run_gathered (F := Ideal) m ρ),
    (θ_run Cert.Reference.defs _ _).mono (fun _ h => ⟨h.1 0, h.1 0⟩) (Cert.Whole.run_main (F := Ideal) m' ρ')⟩

/-- The same of the programs as they are printed, bit for bit. -/
theorem bitexact : Cert.bitexact_Kernel_Reference := fun m ρ m' ρ' _ hX =>
  ⟨_, Cert.Gather.run_same ((θ_run Cert.KernelIdeal.defs _ _).mono
        (fun _ h c => ⟨((h.1 c).1).trans (Cert.Gather.gathered_eq m _ _ hX), (h.1 c).2⟩) (Cert.Gather.run_gathered (F := Bits) m ρ)),
    (θ_run Cert.Reference.defs _ _).mono (fun _ h => ⟨h.1 0, h.1 0⟩) (Cert.Whole.run_main (F := Bits) m' ρ')⟩

/-- All the claims, with the facts the programs state of themselves. -/
theorem claim : Cert.Claim :=
  ⟨Cert.Kernel.Gen.facts, Cert.KernelIdeal.Gen.facts, Cert.ReferenceIdeal.Gen.facts, Cert.Reference.Gen.facts,
    frame_kernel, frame_kernel_ideal, frame_reference_ideal, frame_reference, trivial, algebraic, bitexact⟩

end Cert.Proof

end
